-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormKernelIdeal_gain_is_finite [hPre_gain_is_finite : Cert.Pre_gain_is_finite.Facts] (m : (ℓ : Loc Cert.NormKernelIdeal.nD Cert.NormKernelIdeal.τ Cert.NormKernelIdeal.sig) → Buf (Elt Ideal) ℓ) : Prop :=
  ∀ c : Dev Cert.NormKernelIdeal.nD,
    (Cert.Pre_gain_is_finite.fn (F := Ideal) (m ((c.tc : Thread Cert.NormKernelIdeal.nD Cert.NormKernelIdeal.τ).loc Cert.NormKernelIdeal.main_arg0)) (m ((c.tc : Thread Cert.NormKernelIdeal.nD Cert.NormKernelIdeal.τ).loc Cert.NormKernelIdeal.main_arg1))) = (fun _ => 1#1)

def Pre_NormReferenceIdeal (m : (ℓ : Loc Cert.NormReferenceIdeal.nD Cert.NormReferenceIdeal.τ Cert.NormReferenceIdeal.sig) → Buf (Elt Ideal) ℓ) : Prop :=
  True

def Pre_NormReferenceIdeal_gain_is_finite [hPre_gain_is_finite : Cert.Pre_gain_is_finite.Facts] (m : (ℓ : Loc Cert.NormReferenceIdeal.nD Cert.NormReferenceIdeal.τ Cert.NormReferenceIdeal.sig) → Buf (Elt Ideal) ℓ) : Prop :=
  ∀ c : Dev Cert.NormReferenceIdeal.nD,
    (Cert.Pre_gain_is_finite.fn (F := Ideal) (m ((c.tc : Thread Cert.NormReferenceIdeal.nD Cert.NormReferenceIdeal.τ).loc Cert.NormReferenceIdeal.main_arg0)) (m ((c.tc : Thread Cert.NormReferenceIdeal.nD Cert.NormReferenceIdeal.τ).loc Cert.NormReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormKernelIdeal_pre_gain_is_finite [hNormKernelIdeal : Cert.NormKernelIdeal.Facts] [hPre_gain_is_finite : Cert.Pre_gain_is_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal_gain_is_finite m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_NormReferenceIdeal_pre_gain_is_finite [hNormReferenceIdeal : Cert.NormReferenceIdeal.Facts] [hPre_gain_is_finite : Cert.Pre_gain_is_finite.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal_gain_is_finite m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_NormKernel_NormKernelIdeal : Prop :=
  True

def algebraic_NormKernelIdeal_NormReferenceIdeal_pre_gain_is_finite [hNormKernelIdeal : Cert.NormKernelIdeal.Facts] [hNormReferenceIdeal : Cert.NormReferenceIdeal.Facts] [hPre_gain_is_finite : Cert.Pre_gain_is_finite.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal_gain_is_finite m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v1_0)) (v1 : (c : Dev Cert.NormKernelIdeal.nD) → Buf (Elt Ideal) ((c.tc : Thread Cert.NormKernelIdeal.nD Cert.NormKernelIdeal.τ).loc Cert.NormKernelIdeal.main_v1_1)) (v2 : (c : Dev Cert.NormKernelIdeal.nD) → Buf (Elt Ideal) ((c.tc : Thread Cert.NormKernelIdeal.nD Cert.NormKernelIdeal.τ).loc Cert.NormKernelIdeal.main_v1_2)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v1_0) = v0 c
          ∧ r.2.mem ((c.tc : Thread Cert.NormKernelIdeal.nD Cert.NormKernelIdeal.τ).loc Cert.NormKernelIdeal.main_v1_1) = v1 c
          ∧ r.2.mem ((c.tc : Thread Cert.NormKernelIdeal.nD Cert.NormKernelIdeal.τ).loc Cert.NormKernelIdeal.main_v1_2) = v2 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v0_0) = v0 c
          ∧ r.2.mem ((c.tc : Thread Cert.NormReferenceIdeal.nD Cert.NormReferenceIdeal.τ).loc Cert.NormReferenceIdeal.main_v0_1) = v1 c
          ∧ r.2.mem ((c.tc : Thread Cert.NormReferenceIdeal.nD Cert.NormReferenceIdeal.τ).loc Cert.NormReferenceIdeal.main_v0_2) = v2 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def Claim : Prop :=
  ∃ (hKernel : Cert.Kernel.Facts) (hKernelIdeal : Cert.KernelIdeal.Facts) (hReferenceIdeal : Cert.ReferenceIdeal.Facts) (hNormKernel : Cert.NormKernel.Facts) (hNormKernelIdeal : Cert.NormKernelIdeal.Facts) (hNormReferenceIdeal : Cert.NormReferenceIdeal.Facts) (hPre_gain_is_finite : Cert.Pre_gain_is_finite.Facts),
    quiescent_Kernel (hKernel := hKernel)
    ∧ quiescent_KernelIdeal (hKernelIdeal := hKernelIdeal)
    ∧ quiescent_ReferenceIdeal (hReferenceIdeal := hReferenceIdeal)
    ∧ quiescent_NormKernel (hNormKernel := hNormKernel)
    ∧ quiescent_NormKernelIdeal (hNormKernelIdeal := hNormKernelIdeal)
    ∧ quiescent_NormKernelIdeal_pre_gain_is_finite (hNormKernelIdeal := hNormKernelIdeal) (hPre_gain_is_finite := hPre_gain_is_finite)
    ∧ quiescent_NormReferenceIdeal (hNormReferenceIdeal := hNormReferenceIdeal)
    ∧ quiescent_NormReferenceIdeal_pre_gain_is_finite (hNormReferenceIdeal := hNormReferenceIdeal) (hPre_gain_is_finite := hPre_gain_is_finite)
    ∧ preserves_Kernel_KernelIdeal
    ∧ algebraic_KernelIdeal_ReferenceIdeal (hKernelIdeal := hKernelIdeal) (hReferenceIdeal := hReferenceIdeal)
    ∧ preserves_NormKernel_NormKernelIdeal
    ∧ algebraic_NormKernelIdeal_NormReferenceIdeal_pre_gain_is_finite (hNormKernelIdeal := hNormKernelIdeal) (hNormReferenceIdeal := hNormReferenceIdeal) (hPre_gain_is_finite := hPre_gain_is_finite)
-- ==== Pre_gain_is_finite.lean ====
abbrev S3072x8192 : Shape := ⟨2, ![3072, 8192]⟩
abbrev S8192 : Shape := ⟨1, ![8192]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S3072x8192 .bf16) (main_arg1 : FVec F S8192 .bf16) : IVec S8192 1 :=
  let main_v0 : FVec F S8192 .bf16 := Host.absf main_arg1
  let main_cst : FVec F S_ .bf16 := constant S_ .bf16 0x7F7F#16
  let main_v1 : FVec F S8192 .bf16 := broadcastInDim S8192 ![] bcast_S_S8192 main_cst
  let main_v2 : IVec S8192 1 := cmpf .ole main_v0 main_v1
  main_v2
-- ==== Kernel.lean ====
abbrev S3072x8192 : Shape := ⟨2, ![3072, 8192]⟩
abbrev S8192x10240 : Shape := ⟨2, ![8192, 10240]⟩
abbrev S64x80 : Shape := ⟨2, ![64, 80]⟩
abbrev S128 : Shape := ⟨1, ![128]⟩
abbrev S1x128 : Shape := ⟨2, ![1, 128]⟩
abbrev S3072x1024 : Shape := ⟨2, ![3072, 1024]⟩
abbrev S1024x8192 : Shape := ⟨2, ![1024, 8192]⟩
abbrev S8192x512 : Shape := ⟨2, ![8192, 512]⟩
abbrev S1024x512 : Shape := ⟨2, ![1024, 512]⟩
abbrev S1x1 : Shape := ⟨2, ![1, 1]⟩
abbrev S128x128 : Shape := ⟨2, ![128, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 13
  | .smem => 1
  | _ => 0

abbrev bufTy : (tb : Table) → Fin (tcTables nBuf tb) → BufTy
  | .hbm, ⟨0, _⟩ => ⟨S3072x8192, .bf16⟩
  | .hbm, ⟨1, _⟩ => ⟨S8192x10240, .fp8e4m3⟩
  | .hbm, ⟨2, _⟩ => ⟨S64x80, .f32⟩
  | .hbm, ⟨3, _⟩ => ⟨S128, .bf16⟩
  | .hbm, ⟨4, _⟩ => ⟨S128, .bf16⟩
  | .hbm, ⟨5, _⟩ => ⟨S1x128, .bf16⟩
  | .hbm, ⟨6, _⟩ => ⟨S1x128, .bf16⟩
  | .hbm, ⟨7, _⟩ => ⟨S3072x8192, .bf16⟩
  | .hbm, ⟨8, _⟩ => ⟨S3072x1024, .bf16⟩
  | .hbm, ⟨9, _⟩ => ⟨S3072x1024, .bf16⟩
  | .local _ .vmem, ⟨0, _⟩ => ⟨S1024x8192, .bf16⟩
  | .local _ .vmem, ⟨1, _⟩ => ⟨S1024x8192, .bf16⟩
  | .local _ .vmem, ⟨2, _⟩ => ⟨S8192x512, .fp8e4m3⟩
  | .local _ .vmem, ⟨3, _⟩ => ⟨S8192x512, .fp8e4m3⟩
  | .local _ .vmem, ⟨4, _⟩ => ⟨S1x128, .bf16⟩
  | .local _ .vmem, ⟨5, _⟩ => ⟨S1x128, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S8192x512, .bf16⟩
  | .local _ .smem, ⟨0, _⟩ => ⟨S64x80, .f32⟩
  | _, _ => ⟨S3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![3, 20], ![false, false]⟩

def k0_off1 (i : grid0.Coords) (c0_i32 : BitVec 32) : Fin 2 → Nat :=
  let c0 : Index := 0#32
  let arg1 : BitVec 32 := BitVec.ofNat 32 (i 1).val
  let c4_i32 : BitVec 32 := 4#32
  let v0 : BitVec 32 := Scalar.muli arg1 c4_i32
  let v1 : BitVec 32 := Scalar.addi v0 c0_i32
  let v2 : Index := Scalar.indexCast v1
  ![0, v2.toNat]
def k0_off2 (i : grid0.Coords) (c0_i32_20 : BitVec 32) : Fin 2 → Nat :=
  let c1 : Index := 1#32
  let arg1 : BitVec 32 := BitVec.ofNat 32 (i 1).val
  let c4_i32_19 : BitVec 32 := 4#32
  let v48 : BitVec 32 := Scalar.muli arg1 c4_i32_19
  let v49 : BitVec 32 := Scalar.addi v48 c0_i32_20
  let v50 : Index := Scalar.indexCast v49
  ![1, v50.toNat]
def k0_off3 (i : grid0.Coords) (c0_i32_47 : BitVec 32) : Fin 2 → Nat :=
  let c2 : Index := 2#32
  let arg1 : BitVec 32 := BitVec.ofNat 32 (i 1).val
  let c4_i32_46 : BitVec 32 := 4#32
  let v96 : BitVec 32 := Scalar.muli arg1 c4_i32_46
  let v97 : BitVec 32 := Scalar.addi v96 c0_i32_47
  let v98 : Index := Scalar.indexCast v97
  ![2, v98.toNat]
def k0_off4 (i : grid0.Coords) (c0_i32_74 : BitVec 32) : Fin 2 → Nat :=
  let c3 : Index := 3#32
  let arg1 : BitVec 32 := BitVec.ofNat 32 (i 1).val
  let c4_i32_73 : BitVec 32 := 4#32
  let v144 : BitVec 32 := Scalar.muli arg1 c4_i32_73
  let v145 : BitVec 32 := Scalar.addi v144 c0_i32_74
  let v146 : Index := Scalar.indexCast v145
  ![3, v146.toNat]
def k0_off5 (i : grid0.Coords) (c0_i32_101 : BitVec 32) : Fin 2 → Nat :=
  let c4 : Index := 4#32
  let arg1 : BitVec 32 := BitVec.ofNat 32 (i 1).val
  let c4_i32_100 : BitVec 32 := 4#32
  let v192 : BitVec 32 := Scalar.muli arg1 c4_i32_100
  let v193 : BitVec 32 := Scalar.addi v192 c0_i32_101
  let v194 : Index := Scalar.indexCast v193
  ![4, v194.toNat]
def k0_off6 (i : grid0.Coords) (c0_i32_127 : BitVec 32) : Fin 2 → Nat :=
  let c5 : Index := 5#32
  let arg1 : BitVec 32 := BitVec.ofNat 32 (i 1).val
  let c4_i32_126 : BitVec 32 := 4#32
  let v240 : BitVec 32 := Scalar.muli arg1 c4_i32_126
  let v241 : BitVec 32 := Scalar.addi v240 c0_i32_127
  let v242 : Index := Scalar.indexCast v241
  ![5, v242.toNat]
def k0_off7 (i : grid0.Coords) (c0_i32_153 : BitVec 32) : Fin 2 → Nat :=
  let c6 : Index := 6#32
  let arg1 : BitVec 32 := BitVec.ofNat 32 (i 1).val
  let c4_i32_152 : BitVec 32 := 4#32
  let v288 : BitVec 32 := Scalar.muli arg1 c4_i32_152
  let v289 : BitVec 32 := Scalar.addi v288 c0_i32_153
  let v290 : Index := Scalar.indexCast v289
  ![6, v290.toNat]
def k0_off8 (i : grid0.Coords) (c0_i32_179 : BitVec 32) : Fin 2 → Nat :=
  let c7 : Index := 7#32
  let arg1 : BitVec 32 := BitVec.ofNat 32 (i 1).val
  let c4_i32_178 : BitVec 32 := 4#32
  let v336 : BitVec 32 := Scalar.muli arg1 c4_i32_178
  let v337 : BitVec 32 := Scalar.addi v336 c0_i32_179
  let v338 : Index := Scalar.indexCast v337
  ![7, v338.toNat]
def k0_off9 (i : grid0.Coords) (c0_i32_205 : BitVec 32) : Fin 2 → Nat :=
  let c8 : Index := 8#32
  let arg1 : BitVec 32 := BitVec.ofNat 32 (i 1).val
  let c4_i32_204 : BitVec 32 := 4#32
  let v384 : BitVec 32 := Scalar.muli arg1 c4_i32_204
  let v385 : BitVec 32 := Scalar.addi v384 c0_i32_205
  let v386 : Index := Scalar.indexCast v385
  ![8, v386.toNat]
def k0_off10 (i : grid0.Coords) (c0_i32_231 : BitVec 32) : Fin 2 → Nat :=
  let c9 : Index := 9#32
  let arg1 : BitVec 32 := BitVec.ofNat 32 (i 1).val
  let c4_i32_230 : BitVec 32 := 4#32
  let v432 : BitVec 32 := Scalar.muli arg1 c4_i32_230
  let v433 : BitVec 32 := Scalar.addi v432 c0_i32_231
  let v434 : Index := Scalar.indexCast v433
  ![9, v434.toNat]
def k0_off11 (i : grid0.Coords) (c0_i32_257 : BitVec 32) : Fin 2 → Nat :=
  let c10 : Index := 10#32
  let arg1 : BitVec 32 := BitVec.ofNat 32 (i 1).val
  let c4_i32_256 : BitVec 32 := 4#32
  let v480 : BitVec 32 := Scalar.muli arg1 c4_i32_256
  let v481 : BitVec 32 := Scalar.addi v480 c0_i32_257
  let v482 : Index := Scalar.indexCast v481
  ![10, v482.toNat]
def k0_off12 (i : grid0.Coords) (c0_i32_283 : BitVec 32) : Fin 2 → Nat :=
  let c11 : Index := 11#32
  let arg1 : BitVec 32 := BitVec.ofNat 32 (i 1).val
  let c4_i32_282 : BitVec 32 := 4#32
  let v528 : BitVec 32 := Scalar.muli arg1 c4_i32_282
  let v529 : BitVec 32 := Scalar.addi v528 c0_i32_283
  let v530 : Index := Scalar.indexCast v529
  ![11, v530.toNat]
def k0_off13 (i : grid0.Coords) (c0_i32_309 : BitVec 32) : Fin 2 → Nat :=
  let c12 : Index := 12#32
  let arg1 : BitVec 32 := BitVec.ofNat 32 (i 1).val
  let c4_i32_308 : BitVec 32 := 4#32
  let v576 : BitVec 32 := Scalar.muli arg1 c4_i32_308
  let v577 : BitVec 32 := Scalar.addi v576 c0_i32_309
  let v578 : Index := Scalar.indexCast v577
  ![12, v578.toNat]
def k0_off14 (i : grid0.Coords) (c0_i32_335 : BitVec 32) : Fin 2 → Nat :=
  let c13 : Index := 13#32
  let arg1 : BitVec 32 := BitVec.ofNat 32 (i 1).val
  let c4_i32_334 : BitVec 32 := 4#32
  let v624 : BitVec 32 := Scalar.muli arg1 c4_i32_334
  let v625 : BitVec 32 := Scalar.addi v624 c0_i32_335
  let v626 : Index := Scalar.indexCast v625
  ![13, v626.toNat]
def k0_off15 (i : grid0.Coords) (c0_i32_361 : BitVec 32) : Fin 2 → Nat :=
  let c14 : Index := 14#32
  let arg1 : BitVec 32 := BitVec.ofNat 32 (i 1).val
  let c4_i32_360 : BitVec 32 := 4#32
  let v672 : BitVec 32 := Scalar.muli arg1 c4_i32_360
  let v673 : BitVec 32 := Scalar.addi v672 c0_i32_361
  let v674 : Index := Scalar.indexCast v673
  ![14, v674.toNat]
def k0_off16 (i : grid0.Coords) (c0_i32_387 : BitVec 32) : Fin 2 → Nat :=
  let c15 : Index := 15#32
  let arg1 : BitVec 32 := BitVec.ofNat 32 (i 1).val
  let c4_i32_386 : BitVec 32 := 4#32
  let v720 : BitVec 32 := Scalar.muli arg1 c4_i32_386
  let v721 : BitVec 32 := Scalar.addi v720 c0_i32_387
  let v722 : Index := Scalar.indexCast v721
  ![15, v722.toNat]
def k0_off17 (i : grid0.Coords) (c0_i32_413 : BitVec 32) : Fin 2 → Nat :=
  let c16 : Index := 16#32
  let arg1 : BitVec 32 := BitVec.ofNat 32 (i 1).val
  let c4_i32_412 : BitVec 32 := 4#32
  let v768 : BitVec 32 := Scalar.muli arg1 c4_i32_412
  let v769 : BitVec 32 := Scalar.addi v768 c0_i32_413
  let v770 : Index := Scalar.indexCast v769
  ![16, v770.toNat]
def k0_off18 (i : grid0.Coords) (c0_i32_439 : BitVec 32) : Fin 2 → Nat :=
  let c17 : Index := 17#32
  let arg1 : BitVec 32 := BitVec.ofNat 32 (i 1).val
  let c4_i32_438 : BitVec 32 := 4#32
  let v816 : BitVec 32 := Scalar.muli arg1 c4_i32_438
  let v817 : BitVec 32 := Scalar.addi v816 c0_i32_439
  let v818 : Index := Scalar.indexCast v817
  ![17, v818.toNat]
def k0_off19 (i : grid0.Coords) (c0_i32_465 : BitVec 32) : Fin 2 → Nat :=
  let c18 : Index := 18#32
  let arg1 : BitVec 32 := BitVec.ofNat 32 (i 1).val
  let c4_i32_464 : BitVec 32 := 4#32
  let v864 : BitVec 32 := Scalar.muli arg1 c4_i32_464
  let v865 : BitVec 32 := Scalar.addi v864 c0_i32_465
  let v866 : Index := Scalar.indexCast v865
  ![18, v866.toNat]
def k0_off20 (i : grid0.Coords) (c0_i32_491 : BitVec 32) : Fin 2 → Nat :=
  let c19 : Index := 19#32
  let arg1 : BitVec 32 := BitVec.ofNat 32 (i 1).val
  let c4_i32_490 : BitVec 32 := 4#32
  let v912 : BitVec 32 := Scalar.muli arg1 c4_i32_490
  let v913 : BitVec 32 := Scalar.addi v912 c0_i32_491
  let v914 : Index := Scalar.indexCast v913
  ![19, v914.toNat]
def k0_off21 (i : grid0.Coords) (c0_i32_517 : BitVec 32) : Fin 2 → Nat :=
  let c20 : Index := 20#32
  let arg1 : BitVec 32 := BitVec.ofNat 32 (i 1).val
  let c4_i32_516 : BitVec 32 := 4#32
  let v960 : BitVec 32 := Scalar.muli arg1 c4_i32_516
  let v961 : BitVec 32 := Scalar.addi v960 c0_i32_517
  let v962 : Index := Scalar.indexCast v961
  ![20, v962.toNat]
def k0_off22 (i : grid0.Coords) (c0_i32_543 : BitVec 32) : Fin 2 → Nat :=
  let c21 : Index := 21#32
  let arg1 : BitVec 32 := BitVec.ofNat 32 (i 1).val
  let c4_i32_542 : BitVec 32 := 4#32
  let v1008 : BitVec 32 := Scalar.muli arg1 c4_i32_542
  let v1009 : BitVec 32 := Scalar.addi v1008 c0_i32_543
  let v1010 : Index := Scalar.indexCast v1009
  ![21, v1010.toNat]
def k0_off23 (i : grid0.Coords) (c0_i32_569 : BitVec 32) : Fin 2 → Nat :=
  let c22 : Index := 22#32
  let arg1 : BitVec 32 := BitVec.ofNat 32 (i 1).val
  let c4_i32_568 : BitVec 32 := 4#32
  let v1056 : BitVec 32 := Scalar.muli arg1 c4_i32_568
  let v1057 : BitVec 32 := Scalar.addi v1056 c0_i32_569
  let v1058 : Index := Scalar.indexCast v1057
  ![22, v1058.toNat]
def k0_off24 (i : grid0.Coords) (c0_i32_595 : BitVec 32) : Fin 2 → Nat :=
  let c23 : Index := 23#32
  let arg1 : BitVec 32 := BitVec.ofNat 32 (i 1).val
  let c4_i32_594 : BitVec 32 := 4#32
  let v1104 : BitVec 32 := Scalar.muli arg1 c4_i32_594
  let v1105 : BitVec 32 := Scalar.addi v1104 c0_i32_595
  let v1106 : Index := Scalar.indexCast v1105
  ![23, v1106.toNat]
def k0_off25 (i : grid0.Coords) (c0_i32_621 : BitVec 32) : Fin 2 → Nat :=
  let c24 : Index := 24#32
  let arg1 : BitVec 32 := BitVec.ofNat 32 (i 1).val
  let c4_i32_620 : BitVec 32 := 4#32
  let v1152 : BitVec 32 := Scalar.muli arg1 c4_i32_620
  let v1153 : BitVec 32 := Scalar.addi v1152 c0_i32_621
  let v1154 : Index := Scalar.indexCast v1153
  ![24, v1154.toNat]
def k0_off26 (i : grid0.Coords) (c0_i32_647 : BitVec 32) : Fin 2 → Nat :=
  let c25 : Index := 25#32
  let arg1 : BitVec 32 := BitVec.ofNat 32 (i 1).val
  let c4_i32_646 : BitVec 32 := 4#32
  let v1200 : BitVec 32 := Scalar.muli arg1 c4_i32_646
  let v1201 : BitVec 32 := Scalar.addi v1200 c0_i32_647
  let v1202 : Index := Scalar.indexCast v1201
  ![25, v1202.toNat]
def k0_off27 (i : grid0.Coords) (c0_i32_673 : BitVec 32) : Fin 2 → Nat :=
  let c26 : Index := 26#32
  let arg1 : BitVec 32 := BitVec.ofNat 32 (i 1).val
  let c4_i32_672 : BitVec 32 := 4#32
  let v1248 : BitVec 32 := Scalar.muli arg1 c4_i32_672
  let v1249 : BitVec 32 := Scalar.addi v1248 c0_i32_673
  let v1250 : Index := Scalar.indexCast v1249
  ![26, v1250.toNat]
def k0_off28 (i : grid0.Coords) (c0_i32_699 : BitVec 32) : Fin 2 → Nat :=
  let c27 : Index := 27#32
  let arg1 : BitVec 32 := BitVec.ofNat 32 (i 1).val
  let c4_i32_698 : BitVec 32 := 4#32
  let v1296 : BitVec 32 := Scalar.muli arg1 c4_i32_698
  let v1297 : BitVec 32 := Scalar.addi v1296 c0_i32_699
  let v1298 : Index := Scalar.indexCast v1297
  ![27, v1298.toNat]
def k0_off29 (i : grid0.Coords) (c0_i32_725 : BitVec 32) : Fin 2 → Nat :=
  let c28 : Index := 28#32
  let arg1 : BitVec 32 := BitVec.ofNat 32 (i 1).val
  let c4_i32_724 : BitVec 32 := 4#32
  let v1344 : BitVec 32 := Scalar.muli arg1 c4_i32_724
  let v1345 : BitVec 32 := Scalar.addi v1344 c0_i32_725
  let v1346 : Index := Scalar.indexCast v1345
  ![28, v1346.toNat]
def k0_off30 (i : grid0.Coords) (c0_i32_751 : BitVec 32) : Fin 2 → Nat :=
  let c29 : Index := 29#32
  let arg1 : BitVec 32 := BitVec.ofNat 32 (i 1).val
  let c4_i32_750 : BitVec 32 := 4#32
  let v1392 : BitVec 32 := Scalar.muli arg1 c4_i32_750
  let v1393 : BitVec 32 := Scalar.addi v1392 c0_i32_751
  let v1394 : Index := Scalar.indexCast v1393
  ![29, v1394.toNat]
def k0_off31 (i : grid0.Coords) (c0_i32_777 : BitVec 32) : Fin 2 → Nat :=
  let c30 : Index := 30#32
  let arg1 : BitVec 32 := BitVec.ofNat 32 (i 1).val
  let c4_i32_776 : BitVec 32 := 4#32
  let v1440 : BitVec 32 := Scalar.muli arg1 c4_i32_776
  let v1441 : BitVec 32 := Scalar.addi v1440 c0_i32_777
  let v1442 : Index := Scalar.indexCast v1441
  ![30, v1442.toNat]
def k0_off32 (i : grid0.Coords) (c0_i32_803 : BitVec 32) : Fin 2 → Nat :=
  let c31 : Index := 31#32
  let arg1 : BitVec 32 := BitVec.ofNat 32 (i 1).val
  let c4_i32_802 : BitVec 32 := 4#32
  let v1488 : BitVec 32 := Scalar.muli arg1 c4_i32_802
  let v1489 : BitVec 32 := Scalar.addi v1488 c0_i32_803
  let v1490 : Index := Scalar.indexCast v1489
  ![31, v1490.toNat]
def k0_off33 (i : grid0.Coords) (c0_i32_829 : BitVec 32) : Fin 2 → Nat :=
  let c32 : Index := 32#32
  let arg1 : BitVec 32 := BitVec.ofNat 32 (i 1).val
  let c4_i32_828 : BitVec 32 := 4#32
  let v1536 : BitVec 32 := Scalar.muli arg1 c4_i32_828
  let v1537 : BitVec 32 := Scalar.addi v1536 c0_i32_829
  let v1538 : Index := Scalar.indexCast v1537
  ![32, v1538.toNat]
def k0_off34 (i : grid0.Coords) (c0_i32_855 : BitVec 32) : Fin 2 → Nat :=
  let c33 : Index := 33#32
  let arg1 : BitVec 32 := BitVec.ofNat 32 (i 1).val
  let c4_i32_854 : BitVec 32 := 4#32
  let v1584 : BitVec 32 := Scalar.muli arg1 c4_i32_854
  let v1585 : BitVec 32 := Scalar.addi v1584 c0_i32_855
  let v1586 : Index := Scalar.indexCast v1585
  ![33, v1586.toNat]
def k0_off35 (i : grid0.Coords) (c0_i32_881 : BitVec 32) : Fin 2 → Nat :=
  let c34 : Index := 34#32
  let arg1 : BitVec 32 := BitVec.ofNat 32 (i 1).val
  let c4_i32_880 : BitVec 32 := 4#32
  let v1632 : BitVec 32 := Scalar.muli arg1 c4_i32_880
  let v1633 : BitVec 32 := Scalar.addi v1632 c0_i32_881
  let v1634 : Index := Scalar.indexCast v1633
  ![34, v1634.toNat]
def k0_off36 (i : grid0.Coords) (c0_i32_907 : BitVec 32) : Fin 2 → Nat :=
  let c35 : Index := 35#32
  let arg1 : BitVec 32 := BitVec.ofNat 32 (i 1).val
  let c4_i32_906 : BitVec 32 := 4#32
  let v1680 : BitVec 32 := Scalar.muli arg1 c4_i32_906
  let v1681 : BitVec 32 := Scalar.addi v1680 c0_i32_907
  let v1682 : Index := Scalar.indexCast v1681
  ![35, v1682.toNat]
def k0_off37 (i : grid0.Coords) (c0_i32_933 : BitVec 32) : Fin 2 → Nat :=
  let c36 : Index := 36#32
  let arg1 : BitVec 32 := BitVec.ofNat 32 (i 1).val
  let c4_i32_932 : BitVec 32 := 4#32
  let v1728 : BitVec 32 := Scalar.muli arg1 c4_i32_932
  let v1729 : BitVec 32 := Scalar.addi v1728 c0_i32_933
  let v1730 : Index := Scalar.indexCast v1729
  ![36, v1730.toNat]
def k0_off38 (i : grid0.Coords) (c0_i32_959 : BitVec 32) : Fin 2 → Nat :=
  let c37 : Index := 37#32
  let arg1 : BitVec 32 := BitVec.ofNat 32 (i 1).val
  let c4_i32_958 : BitVec 32 := 4#32
  let v1776 : BitVec 32 := Scalar.muli arg1 c4_i32_958
  let v1777 : BitVec 32 := Scalar.addi v1776 c0_i32_959
  let v1778 : Index := Scalar.indexCast v1777
  ![37, v1778.toNat]
def k0_off39 (i : grid0.Coords) (c0_i32_985 : BitVec 32) : Fin 2 → Nat :=
  let c38 : Index := 38#32
  let arg1 : BitVec 32 := BitVec.ofNat 32 (i 1).val
  let c4_i32_984 : BitVec 32 := 4#32
  let v1824 : BitVec 32 := Scalar.muli arg1 c4_i32_984
  let v1825 : BitVec 32 := Scalar.addi v1824 c0_i32_985
  let v1826 : Index := Scalar.indexCast v1825
  ![38, v1826.toNat]
def k0_off40 (i : grid0.Coords) (c0_i32_1011 : BitVec 32) : Fin 2 → Nat :=
  let c39 : Index := 39#32
  let arg1 : BitVec 32 := BitVec.ofNat 32 (i 1).val
  let c4_i32_1010 : BitVec 32 := 4#32
  let v1872 : BitVec 32 := Scalar.muli arg1 c4_i32_1010
  let v1873 : BitVec 32 := Scalar.addi v1872 c0_i32_1011
  let v1874 : Index := Scalar.indexCast v1873
  ![39, v1874.toNat]
def k0_off41 (i : grid0.Coords) (c0_i32_1037 : BitVec 32) : Fin 2 → Nat :=
  let c40 : Index := 40#32
  let arg1 : BitVec 32 := BitVec.ofNat 32 (i 1).val
  let c4_i32_1036 : BitVec 32 := 4#32
  let v1920 : BitVec 32 := Scalar.muli arg1 c4_i32_1036
  let v1921 : BitVec 32 := Scalar.addi v1920 c0_i32_1037
  let v1922 : Index := Scalar.indexCast v1921
  ![40, v1922.toNat]
def k0_off42 (i : grid0.Coords) (c0_i32_1063 : BitVec 32) : Fin 2 → Nat :=
  let c41 : Index := 41#32
  let arg1 : BitVec 32 := BitVec.ofNat 32 (i 1).val
  let c4_i32_1062 : BitVec 32 := 4#32
  let v1968 : BitVec 32 := Scalar.muli arg1 c4_i32_1062
  let v1969 : BitVec 32 := Scalar.addi v1968 c0_i32_1063
  let v1970 : Index := Scalar.indexCast v1969
  ![41, v1970.toNat]
def k0_off43 (i : grid0.Coords) (c0_i32_1089 : BitVec 32) : Fin 2 → Nat :=
  let c42 : Index := 42#32
  let arg1 : BitVec 32 := BitVec.ofNat 32 (i 1).val
  let c4_i32_1088 : BitVec 32 := 4#32
  let v2016 : BitVec 32 := Scalar.muli arg1 c4_i32_1088
  let v2017 : BitVec 32 := Scalar.addi v2016 c0_i32_1089
  let v2018 : Index := Scalar.indexCast v2017
  ![42, v2018.toNat]
def k0_off44 (i : grid0.Coords) (c0_i32_1115 : BitVec 32) : Fin 2 → Nat :=
  let c43 : Index := 43#32
  let arg1 : BitVec 32 := BitVec.ofNat 32 (i 1).val
  let c4_i32_1114 : BitVec 32 := 4#32
  let v2064 : BitVec 32 := Scalar.muli arg1 c4_i32_1114
  let v2065 : BitVec 32 := Scalar.addi v2064 c0_i32_1115
  let v2066 : Index := Scalar.indexCast v2065
  ![43, v2066.toNat]
def k0_off45 (i : grid0.Coords) (c0_i32_1141 : BitVec 32) : Fin 2 → Nat :=
  let c44 : Index := 44#32
  let arg1 : BitVec 32 := BitVec.ofNat 32 (i 1).val
  let c4_i32_1140 : BitVec 32 := 4#32
  let v2112 : BitVec 32 := Scalar.muli arg1 c4_i32_1140
  let v2113 : BitVec 32 := Scalar.addi v2112 c0_i32_1141
  let v2114 : Index := Scalar.indexCast v2113
  ![44, v2114.toNat]
def k0_off46 (i : grid0.Coords) (c0_i32_1167 : BitVec 32) : Fin 2 → Nat :=
  let c45 : Index := 45#32
  let arg1 : BitVec 32 := BitVec.ofNat 32 (i 1).val
  let c4_i32_1166 : BitVec 32 := 4#32
  let v2160 : BitVec 32 := Scalar.muli arg1 c4_i32_1166
  let v2161 : BitVec 32 := Scalar.addi v2160 c0_i32_1167
  let v2162 : Index := Scalar.indexCast v2161
  ![45, v2162.toNat]
def k0_off47 (i : grid0.Coords) (c0_i32_1193 : BitVec 32) : Fin 2 → Nat :=
  let c46 : Index := 46#32
  let arg1 : BitVec 32 := BitVec.ofNat 32 (i 1).val
  let c4_i32_1192 : BitVec 32 := 4#32
  let v2208 : BitVec 32 := Scalar.muli arg1 c4_i32_1192
  let v2209 : BitVec 32 := Scalar.addi v2208 c0_i32_1193
  let v2210 : Index := Scalar.indexCast v2209
  ![46, v2210.toNat]
def k0_off48 (i : grid0.Coords) (c0_i32_1219 : BitVec 32) : Fin 2 → Nat :=
  let c47 : Index := 47#32
  let arg1 : BitVec 32 := BitVec.ofNat 32 (i 1).val
  let c4_i32_1218 : BitVec 32 := 4#32
  let v2256 : BitVec 32 := Scalar.muli arg1 c4_i32_1218
  let v2257 : BitVec 32 := Scalar.addi v2256 c0_i32_1219
  let v2258 : Index := Scalar.indexCast v2257
  ![47, v2258.toNat]
def k0_off49 (i : grid0.Coords) (c0_i32_1245 : BitVec 32) : Fin 2 → Nat :=
  let c48 : Index := 48#32
  let arg1 : BitVec 32 := BitVec.ofNat 32 (i 1).val
  let c4_i32_1244 : BitVec 32 := 4#32
  let v2304 : BitVec 32 := Scalar.muli arg1 c4_i32_1244
  let v2305 : BitVec 32 := Scalar.addi v2304 c0_i32_1245
  let v2306 : Index := Scalar.indexCast v2305
  ![48, v2306.toNat]
def k0_off50 (i : grid0.Coords) (c0_i32_1271 : BitVec 32) : Fin 2 → Nat :=
  let c49 : Index := 49#32
  let arg1 : BitVec 32 := BitVec.ofNat 32 (i 1).val
  let c4_i32_1270 : BitVec 32 := 4#32
  let v2352 : BitVec 32 := Scalar.muli arg1 c4_i32_1270
  let v2353 : BitVec 32 := Scalar.addi v2352 c0_i32_1271
  let v2354 : Index := Scalar.indexCast v2353
  ![49, v2354.toNat]
def k0_off51 (i : grid0.Coords) (c0_i32_1297 : BitVec 32) : Fin 2 → Nat :=
  let c50 : Index := 50#32
  let arg1 : BitVec 32 := BitVec.ofNat 32 (i 1).val
  let c4_i32_1296 : BitVec 32 := 4#32
  let v2400 : BitVec 32 := Scalar.muli arg1 c4_i32_1296
  let v2401 : BitVec 32 := Scalar.addi v2400 c0_i32_1297
  let v2402 : Index := Scalar.indexCast v2401
  ![50, v2402.toNat]
def k0_off52 (i : grid0.Coords) (c0_i32_1323 : BitVec 32) : Fin 2 → Nat :=
  let c51 : Index := 51#32
  let arg1 : BitVec 32 := BitVec.ofNat 32 (i 1).val
  let c4_i32_1322 : BitVec 32 := 4#32
  let v2448 : BitVec 32 := Scalar.muli arg1 c4_i32_1322
  let v2449 : BitVec 32 := Scalar.addi v2448 c0_i32_1323
  let v2450 : Index := Scalar.indexCast v2449
  ![51, v2450.toNat]
def k0_off53 (i : grid0.Coords) (c0_i32_1349 : BitVec 32) : Fin 2 → Nat :=
  let c52 : Index := 52#32
  let arg1 : BitVec 32 := BitVec.ofNat 32 (i 1).val
  let c4_i32_1348 : BitVec 32 := 4#32
  let v2496 : BitVec 32 := Scalar.muli arg1 c4_i32_1348
  let v2497 : BitVec 32 := Scalar.addi v2496 c0_i32_1349
  let v2498 : Index := Scalar.indexCast v2497
  ![52, v2498.toNat]
def k0_off54 (i : grid0.Coords) (c0_i32_1375 : BitVec 32) : Fin 2 → Nat :=
  let c53 : Index := 53#32
  let arg1 : BitVec 32 := BitVec.ofNat 32 (i 1).val
  let c4_i32_1374 : BitVec 32 := 4#32
  let v2544 : BitVec 32 := Scalar.muli arg1 c4_i32_1374
  let v2545 : BitVec 32 := Scalar.addi v2544 c0_i32_1375
  let v2546 : Index := Scalar.indexCast v2545
  ![53, v2546.toNat]
def k0_off55 (i : grid0.Coords) (c0_i32_1401 : BitVec 32) : Fin 2 → Nat :=
  let c54 : Index := 54#32
  let arg1 : BitVec 32 := BitVec.ofNat 32 (i 1).val
  let c4_i32_1400 : BitVec 32 := 4#32
  let v2592 : BitVec 32 := Scalar.muli arg1 c4_i32_1400
  let v2593 : BitVec 32 := Scalar.addi v2592 c0_i32_1401
  let v2594 : Index := Scalar.indexCast v2593
  ![54, v2594.toNat]
def k0_off56 (i : grid0.Coords) (c0_i32_1427 : BitVec 32) : Fin 2 → Nat :=
  let c55 : Index := 55#32
  let arg1 : BitVec 32 := BitVec.ofNat 32 (i 1).val
  let c4_i32_1426 : BitVec 32 := 4#32
  let v2640 : BitVec 32 := Scalar.muli arg1 c4_i32_1426
  let v2641 : BitVec 32 := Scalar.addi v2640 c0_i32_1427
  let v2642 : Index := Scalar.indexCast v2641
  ![55, v2642.toNat]
def k0_off57 (i : grid0.Coords) (c0_i32_1453 : BitVec 32) : Fin 2 → Nat :=
  let c56 : Index := 56#32
  let arg1 : BitVec 32 := BitVec.ofNat 32 (i 1).val
  let c4_i32_1452 : BitVec 32 := 4#32
  let v2688 : BitVec 32 := Scalar.muli arg1 c4_i32_1452
  let v2689 : BitVec 32 := Scalar.addi v2688 c0_i32_1453
  let v2690 : Index := Scalar.indexCast v2689
  ![56, v2690.toNat]
def k0_off58 (i : grid0.Coords) (c0_i32_1479 : BitVec 32) : Fin 2 → Nat :=
  let c57 : Index := 57#32
  let arg1 : BitVec 32 := BitVec.ofNat 32 (i 1).val
  let c4_i32_1478 : BitVec 32 := 4#32
  let v2736 : BitVec 32 := Scalar.muli arg1 c4_i32_1478
  let v2737 : BitVec 32 := Scalar.addi v2736 c0_i32_1479
  let v2738 : Index := Scalar.indexCast v2737
  ![57, v2738.toNat]
def k0_off59 (i : grid0.Coords) (c0_i32_1505 : BitVec 32) : Fin 2 → Nat :=
  let c58 : Index := 58#32
  let arg1 : BitVec 32 := BitVec.ofNat 32 (i 1).val
  let c4_i32_1504 : BitVec 32 := 4#32
  let v2784 : BitVec 32 := Scalar.muli arg1 c4_i32_1504
  let v2785 : BitVec 32 := Scalar.addi v2784 c0_i32_1505
  let v2786 : Index := Scalar.indexCast v2785
  ![58, v2786.toNat]
def k0_off60 (i : grid0.Coords) (c0_i32_1531 : BitVec 32) : Fin 2 → Nat :=
  let c59 : Index := 59#32
  let arg1 : BitVec 32 := BitVec.ofNat 32 (i 1).val
  let c4_i32_1530 : BitVec 32 := 4#32
  let v2832 : BitVec 32 := Scalar.muli arg1 c4_i32_1530
  let v2833 : BitVec 32 := Scalar.addi v2832 c0_i32_1531
  let v2834 : Index := Scalar.indexCast v2833
  ![59, v2834.toNat]
def k0_off61 (i : grid0.Coords) (c0_i32_1557 : BitVec 32) : Fin 2 → Nat :=
  let c60 : Index := 60#32
  let arg1 : BitVec 32 := BitVec.ofNat 32 (i 1).val
  let c4_i32_1556 : BitVec 32 := 4#32
  let v2880 : BitVec 32 := Scalar.muli arg1 c4_i32_1556
  let v2881 : BitVec 32 := Scalar.addi v2880 c0_i32_1557
  let v2882 : Index := Scalar.indexCast v2881
  ![60, v2882.toNat]
def k0_off62 (i : grid0.Coords) (c0_i32_1583 : BitVec 32) : Fin 2 → Nat :=
  let c61 : Index := 61#32
  let arg1 : BitVec 32 := BitVec.ofNat 32 (i 1).val
  let c4_i32_1582 : BitVec 32 := 4#32
  let v2928 : BitVec 32 := Scalar.muli arg1 c4_i32_1582
  let v2929 : BitVec 32 := Scalar.addi v2928 c0_i32_1583
  let v2930 : Index := Scalar.indexCast v2929
  ![61, v2930.toNat]
def k0_off63 (i : grid0.Coords) (c0_i32_1609 : BitVec 32) : Fin 2 → Nat :=
  let c62 : Index := 62#32
  let arg1 : BitVec 32 := BitVec.ofNat 32 (i 1).val
  let c4_i32_1608 : BitVec 32 := 4#32
  let v2976 : BitVec 32 := Scalar.muli arg1 c4_i32_1608
  let v2977 : BitVec 32 := Scalar.addi v2976 c0_i32_1609
  let v2978 : Index := Scalar.indexCast v2977
  ![62, v2978.toNat]
def k0_off64 (i : grid0.Coords) (c0_i32_1635 : BitVec 32) : Fin 2 → Nat :=
  let c63 : Index := 63#32
  let arg1 : BitVec 32 := BitVec.ofNat 32 (i 1).val
  let c4_i32_1634 : BitVec 32 := 4#32
  let v3024 : BitVec 32 := Scalar.muli arg1 c4_i32_1634
  let v3025 : BitVec 32 := Scalar.addi v3024 c0_i32_1635
  let v3026 : Index := Scalar.indexCast v3025
  ![63, v3026.toNat]
def k0_cond1 (i : grid0.Coords) : BitVec 1 :=
  let arg1 : BitVec 32 := BitVec.ofNat 32 (i 1).val
  let c16_i32 : BitVec 32 := 16#32
  let v3075 : BitVec 1 := Scalar.cmpi .slt arg1 c16_i32
  let v3076 : BitVec 32 := Scalar.extui v3075
  let c0_i32_1664 : BitVec 32 := 0#32
  let v3077 : BitVec 1 := Scalar.cmpi .ne v3076 c0_i32_1664
  v3077

def k0_cond2 (i : grid0.Coords) : BitVec 1 :=
  let arg1 : BitVec 32 := BitVec.ofNat 32 (i 1).val
  let c16_i32_1665 : BitVec 32 := 16#32
  let v3078 : BitVec 1 := Scalar.cmpi .sge arg1 c16_i32_1665
  let c18_i32 : BitVec 32 := 18#32
  let v3079 : BitVec 1 := Scalar.cmpi .slt arg1 c18_i32
  let v3080 : BitVec 1 := Scalar.andi v3078 v3079
  let v3081 : BitVec 32 := Scalar.extui v3080
  let c0_i32_1666 : BitVec 32 := 0#32
  let v3082 : BitVec 1 := Scalar.cmpi .ne v3081 c0_i32_1666
  v3082

def k0_cond3 (i : grid0.Coords) : BitVec 1 :=
  let arg1 : BitVec 32 := BitVec.ofNat 32 (i 1).val
  let c18_i32_1667 : BitVec 32 := 18#32
  let v3083 : BitVec 1 := Scalar.cmpi .sge arg1 c18_i32_1667
  let v3084 : BitVec 32 := Scalar.extui v3083
  let c0_i32_1668 : BitVec 32 := 0#32
  let v3085 : BitVec 1 := Scalar.cmpi .ne v3084 c0_i32_1668
  v3085

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c2_i32 : BitVec 32 := 2#32
  let v1 : BitVec 32 := Scalar.subi v0 c2_i32
  let c0_i32 : BitVec 32 := 0#32
  let c1_i32 : BitVec 32 := 1#32
  let v2 : BitVec 32 := Scalar.maxsi c0_i32 v1
  let v3 : BitVec 32 := Scalar.minsi c1_i32 v2
  let c0_i32_0 : BitVec 32 := 0#32
  ![arg0.toNat, v3.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .smem S64x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S3072x8192 : Shape := ⟨2, ![3072, 8192]⟩
abbrev S8192x10240 : Shape := ⟨2, ![8192, 10240]⟩
abbrev S64x80 : Shape := ⟨2, ![64, 80]⟩
abbrev S128 : Shape := ⟨1, ![128]⟩
abbrev S3072x1024 : Shape := ⟨2, ![3072, 1024]⟩
abbrev S64x128x80x128 : Shape := ⟨4, ![64, 128, 80, 128]⟩
abbrev S64x1x80x1 : Shape := ⟨4, ![64, 1, 80, 1]⟩
abbrev S3072x10240 : Shape := ⟨2, ![3072, 10240]⟩
abbrev S3072x64x128 : Shape := ⟨3, ![3072, 64, 128]⟩
abbrev S3072x8x128 : Shape := ⟨3, ![3072, 8, 128]⟩
abbrev S3072x64 : Shape := ⟨2, ![3072, 64]⟩
abbrev S3072x64x1 : Shape := ⟨3, ![3072, 64, 1]⟩
abbrev S1x1x128 : Shape := ⟨3, ![1, 1, 128]⟩
abbrev S3072x8 : Shape := ⟨2, ![3072, 8]⟩
abbrev S3072x8x1 : Shape := ⟨3, ![3072, 8, 1]⟩

abbrev nBuf : Space → Nat
  | .hbm => 8
  | .vmem => 8
  | .smem => 0
  | _ => 0

abbrev bufTy : (tb : Table) → Fin (tcTables nBuf tb) → BufTy
  | .hbm, ⟨0, _⟩ => ⟨S3072x8192, .bf16⟩
  | .hbm, ⟨1, _⟩ => ⟨S8192x10240, .fp8e4m3⟩
  | .hbm, ⟨2, _⟩ => ⟨S64x80, .f32⟩
  | .hbm, ⟨3, _⟩ => ⟨S128, .bf16⟩
  | .hbm, ⟨4, _⟩ => ⟨S128, .bf16⟩
  | .hbm, ⟨5, _⟩ => ⟨S3072x8192, .bf16⟩
  | .hbm, ⟨6, _⟩ => ⟨S3072x1024, .bf16⟩
  | .hbm, ⟨7, _⟩ => ⟨S3072x1024, .bf16⟩
  | .local _ .vmem, ⟨0, _⟩ => ⟨S3072x8192, .bf16⟩
  | .local _ .vmem, ⟨1, _⟩ => ⟨S8192x10240, .fp8e4m3⟩
  | .local _ .vmem, ⟨2, _⟩ => ⟨S64x80, .f32⟩
  | .local _ .vmem, ⟨3, _⟩ => ⟨S128, .bf16⟩
  | .local _ .vmem, ⟨4, _⟩ => ⟨S128, .bf16⟩
  | .local _ .vmem, ⟨5, _⟩ => ⟨S3072x8192, .bf16⟩
  | .local _ .vmem, ⟨6, _⟩ => ⟨S3072x1024, .bf16⟩
  | .local _ .vmem, ⟨7, _⟩ => ⟨S3072x1024, .bf16⟩
  | _, _ => ⟨S3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3072x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== NormKernel.lean ====
abbrev S3072x8192 : Shape := ⟨2, ![3072, 8192]⟩
abbrev S8192 : Shape := ⟨1, ![8192]⟩
abbrev S1x8192 : Shape := ⟨2, ![1, 8192]⟩
abbrev S3072x64 : Shape := ⟨2, ![3072, 64]⟩
abbrev S128x8192 : Shape := ⟨2, ![128, 8192]⟩
abbrev S128x64 : Shape := ⟨2, ![128, 64]⟩
abbrev S32x128 : Shape := ⟨2, ![32, 128]⟩
abbrev S32 : Shape := ⟨1, ![32]⟩
abbrev S32x1 : Shape := ⟨2, ![32, 1]⟩
abbrev S32x64 : Shape := ⟨2, ![32, 64]⟩
abbrev S1x128 : Shape := ⟨2, ![1, 128]⟩
abbrev S32x256 : Shape := ⟨2, ![32, 256]⟩

abbrev nBuf : Space → Nat
  | .hbm => 6
  | .vmem => 9
  | .smem => 0
  | _ => 0

abbrev bufTy : (tb : Table) → Fin (tcTables nBuf tb) → BufTy
  | .hbm, ⟨0, _⟩ => ⟨S3072x8192, .bf16⟩
  | .hbm, ⟨1, _⟩ => ⟨S8192, .bf16⟩
  | .hbm, ⟨2, _⟩ => ⟨S1x8192, .bf16⟩
  | .hbm, ⟨3, _⟩ => ⟨S3072x8192, .fp8e4m3⟩
  | .hbm, ⟨4, _⟩ => ⟨S3072x64, .f32⟩
  | .hbm, ⟨5, _⟩ => ⟨S3072x8192, .bf16⟩
  | .local _ .vmem, ⟨0, _⟩ => ⟨S128x8192, .bf16⟩
  | .local _ .vmem, ⟨1, _⟩ => ⟨S128x8192, .bf16⟩
  | .local _ .vmem, ⟨2, _⟩ => ⟨S1x8192, .bf16⟩
  | .local _ .vmem, ⟨3, _⟩ => ⟨S128x8192, .fp8e4m3⟩
  | .local _ .vmem, ⟨4, _⟩ => ⟨S128x8192, .fp8e4m3⟩
  | .local _ .vmem, ⟨5, _⟩ => ⟨S128x64, .f32⟩
  | .local _ .vmem, ⟨6, _⟩ => ⟨S128x64, .f32⟩
  | .local _ .vmem, ⟨7, _⟩ => ⟨S128x8192, .bf16⟩
  | .local _ .vmem, ⟨8, _⟩ => ⟨S128x8192, .bf16⟩
  | _, _ => ⟨S3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  v1
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v4 : Index := Scalar.indexCast v2
  let c0 : Index := 0#32
  ![v4.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v9 : Index := Scalar.indexCast v2
  let c128 : Index := 128#32
  ![v9.toNat, 128]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v14 : Index := Scalar.indexCast v2
  let c256 : Index := 256#32
  ![v14.toNat, 256]
def k0_off4 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v19 : Index := Scalar.indexCast v2
  let c384 : Index := 384#32
  ![v19.toNat, 384]
def k0_off5 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v24 : Index := Scalar.indexCast v2
  let c512 : Index := 512#32
  ![v24.toNat, 512]
def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v29 : Index := Scalar.indexCast v2
  let c640 : Index := 640#32
  ![v29.toNat, 640]
def k0_off7 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v34 : Index := Scalar.indexCast v2
  let c768 : Index := 768#32
  ![v34.toNat, 768]
def k0_off8 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v39 : Index := Scalar.indexCast v2
  let c896 : Index := 896#32
  ![v39.toNat, 896]
def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v44 : Index := Scalar.indexCast v2
  let c1024 : Index := 1024#32
  ![v44.toNat, 1024]
def k0_off10 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v49 : Index := Scalar.indexCast v2
  let c1152 : Index := 1152#32
  ![v49.toNat, 1152]
def k0_off11 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v54 : Index := Scalar.indexCast v2
  let c1280 : Index := 1280#32
  ![v54.toNat, 1280]
def k0_off12 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v59 : Index := Scalar.indexCast v2
  let c1408 : Index := 1408#32
  ![v59.toNat, 1408]
def k0_off13 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v64 : Index := Scalar.indexCast v2
  let c1536 : Index := 1536#32
  ![v64.toNat, 1536]
def k0_off14 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v69 : Index := Scalar.indexCast v2
  let c1664 : Index := 1664#32
  ![v69.toNat, 1664]
def k0_off15 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v74 : Index := Scalar.indexCast v2
  let c1792 : Index := 1792#32
  ![v74.toNat, 1792]
def k0_off16 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v79 : Index := Scalar.indexCast v2
  let c1920 : Index := 1920#32
  ![v79.toNat, 1920]
def k0_off17 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v84 : Index := Scalar.indexCast v2
  let c2048 : Index := 2048#32
  ![v84.toNat, 2048]
def k0_off18 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v89 : Index := Scalar.indexCast v2
  let c2176 : Index := 2176#32
  ![v89.toNat, 2176]
def k0_off19 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v94 : Index := Scalar.indexCast v2
  let c2304 : Index := 2304#32
  ![v94.toNat, 2304]
def k0_off20 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v99 : Index := Scalar.indexCast v2
  let c2432 : Index := 2432#32
  ![v99.toNat, 2432]
def k0_off21 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v104 : Index := Scalar.indexCast v2
  let c2560 : Index := 2560#32
  ![v104.toNat, 2560]
def k0_off22 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v109 : Index := Scalar.indexCast v2
  let c2688 : Index := 2688#32
  ![v109.toNat, 2688]
def k0_off23 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v114 : Index := Scalar.indexCast v2
  let c2816 : Index := 2816#32
  ![v114.toNat, 2816]
def k0_off24 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v119 : Index := Scalar.indexCast v2
  let c2944 : Index := 2944#32
  ![v119.toNat, 2944]
def k0_off25 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v124 : Index := Scalar.indexCast v2
  let c3072 : Index := 3072#32
  ![v124.toNat, 3072]
def k0_off26 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v129 : Index := Scalar.indexCast v2
  let c3200 : Index := 3200#32
  ![v129.toNat, 3200]
def k0_off27 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v134 : Index := Scalar.indexCast v2
  let c3328 : Index := 3328#32
  ![v134.toNat, 3328]
def k0_off28 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v139 : Index := Scalar.indexCast v2
  let c3456 : Index := 3456#32
  ![v139.toNat, 3456]
def k0_off29 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v144 : Index := Scalar.indexCast v2
  let c3584 : Index := 3584#32
  ![v144.toNat, 3584]
def k0_off30 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v149 : Index := Scalar.indexCast v2
  let c3712 : Index := 3712#32
  ![v149.toNat, 3712]
def k0_off31 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v154 : Index := Scalar.indexCast v2
  let c3840 : Index := 3840#32
  ![v154.toNat, 3840]
def k0_off32 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v159 : Index := Scalar.indexCast v2
  let c3968 : Index := 3968#32
  ![v159.toNat, 3968]
def k0_off33 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v164 : Index := Scalar.indexCast v2
  let c4096 : Index := 4096#32
  ![v164.toNat, 4096]
def k0_off34 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v169 : Index := Scalar.indexCast v2
  let c4224 : Index := 4224#32
  ![v169.toNat, 4224]
def k0_off35 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v174 : Index := Scalar.indexCast v2
  let c4352 : Index := 4352#32
  ![v174.toNat, 4352]
def k0_off36 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v179 : Index := Scalar.indexCast v2
  let c4480 : Index := 4480#32
  ![v179.toNat, 4480]
def k0_off37 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v184 : Index := Scalar.indexCast v2
  let c4608 : Index := 4608#32
  ![v184.toNat, 4608]
def k0_off38 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v189 : Index := Scalar.indexCast v2
  let c4736 : Index := 4736#32
  ![v189.toNat, 4736]
def k0_off39 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v194 : Index := Scalar.indexCast v2
  let c4864 : Index := 4864#32
  ![v194.toNat, 4864]
def k0_off40 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v199 : Index := Scalar.indexCast v2
  let c4992 : Index := 4992#32
  ![v199.toNat, 4992]
def k0_off41 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v204 : Index := Scalar.indexCast v2
  let c5120 : Index := 5120#32
  ![v204.toNat, 5120]
def k0_off42 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v209 : Index := Scalar.indexCast v2
  let c5248 : Index := 5248#32
  ![v209.toNat, 5248]
def k0_off43 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v214 : Index := Scalar.indexCast v2
  let c5376 : Index := 5376#32
  ![v214.toNat, 5376]
def k0_off44 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v219 : Index := Scalar.indexCast v2
  let c5504 : Index := 5504#32
  ![v219.toNat, 5504]
def k0_off45 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v224 : Index := Scalar.indexCast v2
  let c5632 : Index := 5632#32
  ![v224.toNat, 5632]
def k0_off46 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v229 : Index := Scalar.indexCast v2
  let c5760 : Index := 5760#32
  ![v229.toNat, 5760]
def k0_off47 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v234 : Index := Scalar.indexCast v2
  let c5888 : Index := 5888#32
  ![v234.toNat, 5888]
def k0_off48 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v239 : Index := Scalar.indexCast v2
  let c6016 : Index := 6016#32
  ![v239.toNat, 6016]
def k0_off49 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v244 : Index := Scalar.indexCast v2
  let c6144 : Index := 6144#32
  ![v244.toNat, 6144]
def k0_off50 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v249 : Index := Scalar.indexCast v2
  let c6272 : Index := 6272#32
  ![v249.toNat, 6272]
def k0_off51 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v254 : Index := Scalar.indexCast v2
  let c6400 : Index := 6400#32
  ![v254.toNat, 6400]
def k0_off52 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v259 : Index := Scalar.indexCast v2
  let c6528 : Index := 6528#32
  ![v259.toNat, 6528]
def k0_off53 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v264 : Index := Scalar.indexCast v2
  let c6656 : Index := 6656#32
  ![v264.toNat, 6656]
def k0_off54 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v269 : Index := Scalar.indexCast v2
  let c6784 : Index := 6784#32
  ![v269.toNat, 6784]
def k0_off55 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v274 : Index := Scalar.indexCast v2
  let c6912 : Index := 6912#32
  ![v274.toNat, 6912]
def k0_off56 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v279 : Index := Scalar.indexCast v2
  let c7040 : Index := 7040#32
  ![v279.toNat, 7040]
def k0_off57 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v284 : Index := Scalar.indexCast v2
  let c7168 : Index := 7168#32
  ![v284.toNat, 7168]
def k0_off58 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v289 : Index := Scalar.indexCast v2
  let c7296 : Index := 7296#32
  ![v289.toNat, 7296]
def k0_off59 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v294 : Index := Scalar.indexCast v2
  let c7424 : Index := 7424#32
  ![v294.toNat, 7424]
def k0_off60 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v299 : Index := Scalar.indexCast v2
  let c7552 : Index := 7552#32
  ![v299.toNat, 7552]
def k0_off61 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v304 : Index := Scalar.indexCast v2
  let c7680 : Index := 7680#32
  ![v304.toNat, 7680]
def k0_off62 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v309 : Index := Scalar.indexCast v2
  let c7808 : Index := 7808#32
  ![v309.toNat, 7808]
def k0_off63 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v314 : Index := Scalar.indexCast v2
  let c7936 : Index := 7936#32
  ![v314.toNat, 7936]
def k0_off64 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v319 : Index := Scalar.indexCast v2
  let c8064 : Index := 8064#32
  ![v319.toNat, 8064]
def k0_off65 (k0_t1 : Fin k0_t1_loop.trips) : Fin 2 → Nat :=
  let c0_i32 : BitVec 32 := 0#32
  let c1_i32 : BitVec 32 := 1#32
  let arg6 : BitVec 32 := Scf.iv c0_i32 c1_i32 k0_t1
  let c32_i32 : BitVec 32 := 32#32
  let v1 : BitVec 32 := Scalar.muli arg6 c32_i32
  let v2 : BitVec 32 := v1
  let v3853 : Index := Scalar.indexCast v2
  let c0_1030 : Index := 0#32
  ![v3853.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S3072x8192 : Shape := ⟨2, ![3072, 8192]⟩
abbrev S8192 : Shape := ⟨1, ![8192]⟩
abbrev S3072x64 : Shape := ⟨2, ![3072, 64]⟩
abbrev S3072 : Shape := ⟨1, ![3072]⟩
abbrev S3072x1 : Shape := ⟨2, ![3072, 1]⟩
abbrev S1x8192 : Shape := ⟨2, ![1, 8192]⟩
abbrev S3072x64x128 : Shape := ⟨3, ![3072, 64, 128]⟩
abbrev S3072x64x255 : Shape := ⟨3, ![3072, 64, 255]⟩
abbrev S3072x64x1 : Shape := ⟨3, ![3072, 64, 1]⟩

abbrev nBuf : Space → Nat
  | .hbm => 5
  | .vmem => 5
  | .smem => 0
  | _ => 0

abbrev bufTy : (tb : Table) → Fin (tcTables nBuf tb) → BufTy
  | .hbm, ⟨0, _⟩ => ⟨S3072x8192, .bf16⟩
  | .hbm, ⟨1, _⟩ => ⟨S8192, .bf16⟩
  | .hbm, ⟨2, _⟩ => ⟨S3072x8192, .fp8e4m3⟩
  | .hbm, ⟨3, _⟩ => ⟨S3072x64, .f32⟩
  | .hbm, ⟨4, _⟩ => ⟨S3072x8192, .bf16⟩
  | .local _ .vmem, ⟨0, _⟩ => ⟨S3072x8192, .bf16⟩
  | .local _ .vmem, ⟨1, _⟩ => ⟨S8192, .bf16⟩
  | .local _ .vmem, ⟨2, _⟩ => ⟨S3072x8192, .fp8e4m3⟩
  | .local _ .vmem, ⟨3, _⟩ => ⟨S3072x64, .f32⟩
  | .local _ .vmem, ⟨4, _⟩ => ⟨S3072x8192, .bf16⟩
  | _, _ => ⟨S3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3072x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Dequant.lean ====
/- The first half of the kernel body at every grid point: the 256 scaled 128×128 tiles of the weight block stored into the
   scratch, then the product of the row block with the scratch.  Stated as one triple; the value it returns is found by running. -/
module

public import proofs.«01_k».proof.Proof.Gen.KernelIdeal.Frame
public import proofs.«01_k».proof.Proof.Gen.KernelIdeal.Skeleton
public import Idealize.ShloMosaic.Lib.Pipeline.ReadBack

@[expose] public section

set_option maxRecDepth 16384

noncomputable section

namespace Cert.Proof.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- Dequantise and multiply, as the body runs them. -/
def dequantDot (i : grid0.Coords) (arg2 : Memref sig .tc .vmem S1024x8192 .bf16) (harg2 : arg2.IsWhole)
    (arg3 : Memref sig .tc .vmem S8192x512 .fp8e4m3) (harg3 : arg3.IsWhole)
    (arg4 : Memref sig .tc .smem S64x80 .f32) (harg4 : arg4.IsWhole)
    (arg5 : Memref sig .tc .vmem S1x128 .bf16) (harg5 : arg5.IsWhole)
    (arg6 : Memref sig .tc .vmem S1x128 .bf16) (harg6 : arg6.IsWhole)
    (arg7 : Memref sig .tc .vmem S1024x512 .bf16) (harg7 : arg7.IsWhole)
    (arg8 : Memref sig .tc .vmem S1024x512 .bf16) (harg8 : arg8.IsWhole)
    (arg9 : Memref sig .tc .vmem S1024x512 .bf16) (harg9 : arg9.IsWhole)
    (arg10 : Memref sig .tc .vmem S8192x512 .bf16) (harg10 : arg10.IsWhole) :
    Prog (TpuEff nD τ sig (Elt F) Λ₀ .tc) (FVec F S1024x512 .f32) := do
  let ⟨arg1, v2156⟩ : Σ' (arg1 : BitVec 32), FVec F S128x128 .bf16 ← k0_part88 i arg2 harg2 arg3 harg3 arg4 harg4 arg5 harg5 arg6 harg6 arg7 harg7 arg8 harg8 arg9 harg9 arg10 harg10
  k0_part89 i arg2 harg2 arg3 harg3 arg4 harg4 arg5 harg5 arg6 harg6 arg7 harg7 arg8 harg8 arg9 harg9 arg10 harg10 arg1 v2156

set_option maxHeartbeats 9012000 in
/-- The triple, with the returned value found by the run. -/
def dotRun (c : Dev nD) (i : grid0.Coords) (arg2 : Memref sig .tc .vmem S1024x8192 .bf16) (harg2 : arg2.IsWhole)
    (arg3 : Memref sig .tc .vmem S8192x512 .fp8e4m3) (harg3 : arg3.IsWhole)
    (arg4 : Memref sig .tc .smem S64x80 .f32) (harg4 : arg4.IsWhole)
    (arg5 : Memref sig .tc .vmem S1x128 .bf16) (harg5 : arg5.IsWhole)
    (arg6 : Memref sig .tc .vmem S1x128 .bf16) (harg6 : arg6.IsWhole)
    (arg7 : Memref sig .tc .vmem S1024x512 .bf16) (harg7 : arg7.IsWhole)
    (arg8 : Memref sig .tc .vmem S1024x512 .bf16) (harg8 : arg8.IsWhole)
    (arg9 : Memref sig .tc .vmem S1024x512 .bf16) (harg9 : arg9.IsWhole)
    (arg10 : Memref sig .tc .vmem S8192x512 .bf16) (harg10 : arg10.IsWhole)
    (x0 : Vec F S1024x8192 .bf16) (x1 : Vec F S8192x512 .fp8e4m3) (x2 : Vec F S64x80 .f32) :
    { y : FVec F S1024x512 .f32 // ∀ (E : Set ℕ) (K : FVec F S1024x512 .f32 → sProp 𝕄),
      iprop(owns (c : Thread nD τ) arg2 fullShare x0 ∗ owns (c : Thread nD τ) arg3 fullShare x1 ∗ owns (c : Thread nD τ) arg4 fullShare x2
          ∗ (∃ d, owns (c : Thread nD τ) arg10 fullShare d)
          ∗ (iprop(owns (c : Thread nD τ) arg2 fullShare x0 ∗ owns (c : Thread nD τ) arg3 fullShare x1 ∗ owns (c : Thread nD τ) arg4 fullShare x2
              ∗ (∃ d, owns (c : Thread nD τ) arg10 fullShare d)) -∗ K y))
        ⊢ wp frame (wpE (defs₀ (F := F)) Variants.none c none) E (dequantDot i arg2 harg2 arg3 harg3 arg4 harg4 arg5 harg5 arg6 harg6 arg7 harg7 arg8 harg8 arg9 harg9 arg10 harg10) K } := by
  refine ⟨?y, ?run⟩
  case run =>
    intro E K
    unfold dequantDot
    simp only [k0_part88_eq_skeleton, k0_part3_eq_skeleton, k0_part4_eq_skeleton, k0_part5_eq_skeleton, k0_part6_eq_skeleton,
      k0_part7_eq_skeleton, k0_part8_eq_skeleton, k0_part9_eq_skeleton, k0_part10_eq_skeleton, k0_part11_eq_skeleton,
      k0_part12_eq_skeleton, k0_part13_eq_skeleton, k0_part14_eq_skeleton, k0_part15_eq_skeleton, k0_part16_eq_skeleton,
      k0_part17_eq_skeleton, k0_part18_eq_skeleton, k0_part19_eq_skeleton, k0_part20_eq_skeleton, k0_part21_eq_skeleton,
      k0_part22_eq_skeleton, k0_part23_eq_skeleton, k0_part24_eq_skeleton, k0_part25_eq_skeleton, k0_part26_eq_skeleton,
      k0_part27_eq_skeleton, k0_part28_eq_skeleton, k0_part29_eq_skeleton, k0_part30_eq_skeleton, k0_part31_eq_skeleton,
      k0_part32_eq_skeleton, k0_part33_eq_skeleton, k0_part34_eq_skeleton, k0_part35_eq_skeleton, k0_part36_eq_skeleton,
      k0_part37_eq_skeleton, k0_part38_eq_skeleton, k0_part39_eq_skeleton, k0_part40_eq_skeleton, k0_part41_eq_skeleton,
      k0_part42_eq_skeleton, k0_part43_eq_skeleton, k0_part44_eq_skeleton, k0_part45_eq_skeleton, k0_part46_eq_skeleton,
      k0_part47_eq_skeleton, k0_part48_eq_skeleton, k0_part49_eq_skeleton, k0_part50_eq_skeleton, k0_part51_eq_skeleton,
      k0_part52_eq_skeleton, k0_part53_eq_skeleton, k0_part54_eq_skeleton, k0_part55_eq_skeleton, k0_part56_eq_skeleton,
      k0_part57_eq_skeleton, k0_part58_eq_skeleton, k0_part59_eq_skeleton, k0_part60_eq_skeleton, k0_part61_eq_skeleton,
      k0_part62_eq_skeleton, k0_part89_eq_skeleton, k0_part63_eq_skeleton, k0_part64_eq_skeleton, k0_part65_eq_skeleton,
      k0_part66_eq_skeleton, k0_part67_eq_skeleton, k0_part68_eq_skeleton, k0_part69_eq_skeleton, k0_part70_eq_skeleton,
      k0_part71_eq_skeleton, k0_part72_eq_skeleton, k0_part73_eq_skeleton, k0_part74_eq_skeleton, k0_part75_eq_skeleton,
      k0_part76_eq_skeleton, k0_part77_eq_skeleton, k0_part78_eq_skeleton, k0_part79_eq_skeleton, k0_part80_eq_skeleton,
      k0_part81_eq_skeleton, k0_part82_eq_skeleton, k0_part83_eq_skeleton, k0_part84_eq_skeleton, k0_part85_eq_skeleton,
      k0_part86_eq_skeleton, k0_part87_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _, _; isplitr; swap; · iexact HS0
    ipureintro; rfl

end Cert.Proof.Qkv

end
-- ==== Proof.Scaled.lean ====
/- What the dequantise half of the body leaves in the scratch: the weight block with every element multiplied by the scale of its
   128×128 tile.  The 256 stores are the blocks of one function of the index (`tile_apply`), and together they cover the scratch, so the
   dot product reads that function (`dotRun_val`). -/
module

public import proofs.«01_k».proof.Proof.Dequant
public import Idealize.ShloMosaic.Lib.ValueIdxCore
import all proofs.«01_k».proof.Proof.Dequant

@[expose] public section

set_option maxRecDepth 16384

noncomputable section

namespace Cert.Proof.Qkv

open Idealize.ShloMosaic Idealize.ShloMosaic.TcCoe Idealize.ShloMosaic.Tactic
open Cert.KernelIdeal Cert.KernelIdeal.Gen

variable {F : FTy → Type} [FloatOps F]

/-- The scale that element `y` of a weight block at grid column `i 1` is multiplied by: row tile `y 0 / 128`, column tile
    `4 * (i 1) + y 1 / 128` of the whole scale array. -/
def scaleIdx (i : grid0.Coords) (y : S8192x512.Idx) : S64x80.Idx :=
  ValueIdx.ix2 ⟨(y 0).val / 128, by have h := (y 0).isLt; change (y 0).val < 8192 at h; omega⟩
    ⟨4 * (i 1).val + (y 1).val / 128, by
      have h0 := (y 1).isLt; change (y 1).val < 512 at h0
      have h1 := (i 1).isLt; change (i 1).val < 20 at h1
      omega⟩

/-- The scaled weight block. -/
def scaled (i : grid0.Coords) (x1 : Vec F S8192x512 .fp8e4m3) (x2 : Vec F S64x80 .f32) : FVec F S8192x512 .bf16 :=
  mulf (extf .bf16 x1 bitsLt_fp8e4m3_bf16) (truncf .bf16 (fun y => x2 (scaleIdx i y)) bitsLt_bf16_f32)

/-- One stored tile: a 128×128 weight tile times one scale. -/
def tile (s : Elt F .f32) (w : Vec F S128x128 .fp8e4m3) : FVec F S128x128 .bf16 :=
  shapeCast S128x128 (mulf (extf .bf16 w bitsLt_fp8e4m3_bf16) (truncf .bf16 (broadcast S128x128 s) bitsLt_bf16_f32)) shapeCasts_S128x128_S128x128

/-- A stored tile, whose weights and scale were loaded from whole buffers, is the block of `scaled` it is stored over. -/
theorem tile_apply (i : grid0.Coords) (arg3 : Memref sig .tc .vmem S8192x512 .fp8e4m3) (harg3 : arg3.IsWhole)
    (arg4 : Memref sig .tc .smem S64x80 .f32) (harg4 : arg4.IsWhole) (x1 : Vec F S8192x512 .fp8e4m3) (x2 : Vec F S64x80 .f32)
    (off : Fin 2 → ℕ) (a b : ℕ) (hoff : off = ![a / 128, 4 * (i 1).val + b / 128]) (ha : a % 128 = 0) (hb : b % 128 = 0)
    (inb4 : ∀ d, off d + S1x1.size d ≤ S64x80.size d) (h1 : 0 < (Rect.unit (s := S64x80) off S1x1.size inb4).shape.numel)
    (inb3 : ∀ d, (![a, b] : Fin 2 → ℕ) d + S128x128.size d ≤ S8192x512.size d) (x : S128x128.Idx) :
    tile (View.readAt (Elt F) arg4.view (Rect.unit (s := S64x80) off S1x1.size inb4).toLoadRect (harg4.unread x2) (Shape.Idx.first h1))
        (View.readAt (Elt F) arg3.view (Rect.unit (s := S8192x512) ![a, b] S128x128.size inb3).toLoadRect (harg3.unread x1)) x
      = scaled i x1 x2 ((Rect.unit (s := S8192x512) ![a, b] S128x128.size inb3).emb x) := by
  subst hoff
  unfold tile
  rw [shapeCast_self, View.readAt_eq_ld, View.readAt_eq_ld, harg3.read_unread, harg4.read_unread]
  simp only [mulf, extf, truncf, scaled, broadcast, View.ld]
  congr 2
  congr 1
  funext d
  have hx0 := (x 0).isLt
  have hx1 := (x 1).isLt
  change (x 0).val < 128 at hx0
  change (x 1).val < 128 at hx1
  refine Fin.ext ?_
  fin_cases d
  · show a / 128 + 1 * 0 = (a + 1 * (x 0).val) / 128
    omega
  · show 4 * (i 1).val + b / 128 + 1 * 0 = 4 * (i 1).val + (b + 1 * (x 1).val) / 128
    omega

set_option maxHeartbeats 4000000 in
/-- Every store into the scratch is its block of `scaled`. -/
theorem stores_scaled (c : Dev nD) (i : grid0.Coords) (arg3 : Memref sig .tc .vmem S8192x512 .fp8e4m3) (harg3 : arg3.IsWhole)
    (arg4 : Memref sig .tc .smem S64x80 .f32) (harg4 : arg4.IsWhole) (x1 : Vec F S8192x512 .fp8e4m3) (x2 : Vec F S64x80 .f32) :
    View.PiecesOf (scaled i x1 x2) (dotRun.sl.HS0_256 c i arg3 harg3 arg4 harg4 x1 x2) := by
  unfold dotRun.sl.HS0_256
  repeat' (first
    | exact trivial
    | refine And.intro (fun x => tile_apply i arg3 harg3 arg4 harg4 x1 x2 _ _ _ (ClosedOff.eq.trans rfl) rfl rfl _ _ _ x) ?_)

set_option maxHeartbeats 4000000 in
/-- The stores cover the scratch. -/
theorem stores_cover (c : Dev nD) (i : grid0.Coords) (arg3 : Memref sig .tc .vmem S8192x512 .fp8e4m3) (harg3 : arg3.IsWhole)
    (arg4 : Memref sig .tc .smem S64x80 .f32) (harg4 : arg4.IsWhole) (x1 : Vec F S8192x512 .fp8e4m3) (x2 : Vec F S64x80 .f32) :
    ∀ y : S8192x512.Idx, ∃ p ∈ dotRun.sl.HS0_256 c i arg3 harg3 arg4 harg4 x1 x2, y ∈ p.1.set :=
  View.cover_of_tiledL _ S128x128.size (by sl_kernel_rfl)

/-- The value the triple `dotRun` returns: the row block times the scaled weight block. -/
theorem dotRun_val (c : Dev nD) (i : grid0.Coords) (arg2 : Memref sig .tc .vmem S1024x8192 .bf16) (harg2 : arg2.IsWhole)
    (arg3 : Memref sig .tc .vmem S8192x512 .fp8e4m3) (harg3 : arg3.IsWhole)
    (arg4 : Memref sig .tc .smem S64x80 .f32) (harg4 : arg4.IsWhole)
    (arg5 : Memref sig .tc .vmem S1x128 .bf16) (harg5 : arg5.IsWhole)
    (arg6 : Memref sig .tc .vmem S1x128 .bf16) (harg6 : arg6.IsWhole)
    (arg7 : Memref sig .tc .vmem S1024x512 .bf16) (harg7 : arg7.IsWhole)
    (arg8 : Memref sig .tc .vmem S1024x512 .bf16) (harg8 : arg8.IsWhole)
    (arg9 : Memref sig .tc .vmem S1024x512 .bf16) (harg9 : arg9.IsWhole)
    (arg10 : Memref sig .tc .vmem S8192x512 .bf16) (harg10 : arg10.IsWhole)
    (x0 : Vec F S1024x8192 .bf16) (x1 : Vec F S8192x512 .fp8e4m3) (x2 : Vec F S64x80 .f32) :
    (dotRun c i arg2 harg2 arg3 harg3 arg4 harg4 arg5 harg5 arg6 harg6 arg7 harg7 arg8 harg8 arg9 harg9 arg10 harg10 x0 x1 x2).1
      = k0_pay357 x0 (scaled i x1 x2) := by
  unfold dotRun dotRun.sl.v3073
  dsimp only
  congr 1
  · rw [View.readAt_eq_ld, harg2.read_unread, View.ld_unit_zero (by funext d; fin_cases d <;> rfl)]
  · rw [View.readCov_eq_canon']
    funext y
    rw [View.canon_apply_of_pieces (scaled i x1 x2) _ (View.PiecesOf.mem (stores_scaled c i arg3 harg3 arg4 harg4 x1 x2)) _
      (stores_cover c i arg3 harg3 arg4 harg4 x1 x2 _)]
    exact congrFun (View.ld_unit_zero (Val := Elt F) (e := .bf16) (S := S8192x512) (by funext d; fin_cases d <;> rfl) _ (scaled i x1 x2)) y

end Cert.Proof.Qkv

end
-- ==== Proof.Body.lean ====
/- The kernel body at a grid point, one triple per branch: the product of the row block with the scaled weight block, then
   the query, key or value block it writes. -/
module

public import proofs.«01_k».proof.Proof.Scaled
public import Idealize.ShloMosaic.Lib.VecWindow

@[expose] public section

set_option maxRecDepth 16384

noncomputable section

namespace Cert.Proof.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The product block: a row block of `h` times a block of columns of the scaled weight. -/
def dotBlk (i : grid0.Coords) (x0 : Vec F S1024x8192 .bf16) (x1 : Vec F S8192x512 .fp8e4m3) (x2 : Vec F S64x80 .f32) :
    FVec F S1024x512 .f32 := k0_pay357 x0 (scaled i x1 x2)

/-- The query block: each of the four heads of the product block normalised and scaled by the gain. -/
def qBlk (v : FVec F S1024x512 .f32) (g : Vec F S1x128 .bf16) : FVec F S1024x512 .bf16 :=
  k0_pay1 (k0_pay4 g) (k0_pay5 v g) (k0_pay6 v g) (k0_pay7 v g) (k0_pay8 v) (k0_pay9 v)

/-- The key block, likewise with its own gain. -/
def kBlk (v : FVec F S1024x512 .f32) (g : Vec F S1x128 .bf16) : FVec F S1024x512 .bf16 :=
  k0_pay2 (k0_pay10 g) (k0_pay11 v g) (k0_pay12 v g) (k0_pay13 v g) (k0_pay14 v) (k0_pay15 v)

/-- The key block is the same function as the query block. -/
theorem kBlk_eq (v : FVec F S1024x512 .f32) (g : Vec F S1x128 .bf16) : kBlk v g = qBlk v g := rfl

/-- The value block: the product block, cast. -/
def vBlk (v : FVec F S1024x512 .f32) : FVec F S1024x512 .bf16 := k0_pay3 v

/-- What the body does after the product, and that the body is the product followed by it. -/
def afterDot (i : grid0.Coords) (arg2 : Memref sig .tc .vmem S1024x8192 .bf16) (harg2 : arg2.IsWhole)
    (arg3 : Memref sig .tc .vmem S8192x512 .fp8e4m3) (harg3 : arg3.IsWhole)
    (arg4 : Memref sig .tc .smem S64x80 .f32) (harg4 : arg4.IsWhole)
    (arg5 : Memref sig .tc .vmem S1x128 .bf16) (harg5 : arg5.IsWhole)
    (arg6 : Memref sig .tc .vmem S1x128 .bf16) (harg6 : arg6.IsWhole)
    (arg7 : Memref sig .tc .vmem S1024x512 .bf16) (harg7 : arg7.IsWhole)
    (arg8 : Memref sig .tc .vmem S1024x512 .bf16) (harg8 : arg8.IsWhole)
    (arg9 : Memref sig .tc .vmem S1024x512 .bf16) (harg9 : arg9.IsWhole)
    (arg10 : Memref sig .tc .vmem S8192x512 .bf16) (harg10 : arg10.IsWhole) :
    { k : FVec F S1024x512 .f32 → Prog (TpuEff nD τ sig (Elt F) Λ₀ .tc) PUnit //
      cc0_qkv_matmul (F := F) i arg2 harg2 arg3 harg3 arg4 harg4 arg5 harg5 arg6 harg6 arg7 harg7 arg8 harg8 arg9 harg9 arg10 harg10 = dequantDot i arg2 harg2 arg3 harg3 arg4 harg4 arg5 harg5 arg6 harg6 arg7 harg7 arg8 harg8 arg9 harg9 arg10 harg10 >>= k } := by
  refine ⟨?k, ?h⟩
  case h =>
    rw [cc0_qkv_matmul_eq_skeleton]; unfold cc0_qkv_matmul_skel dequantDot
    rw [Prog.bind_assoc]

/-- The body at a point that writes a block of queries. -/
theorem bodyQ (c : Dev nD) (i : grid0.Coords) (arg2 : Memref sig .tc .vmem S1024x8192 .bf16) (harg2 : arg2.IsWhole)
    (arg3 : Memref sig .tc .vmem S8192x512 .fp8e4m3) (harg3 : arg3.IsWhole)
    (arg4 : Memref sig .tc .smem S64x80 .f32) (harg4 : arg4.IsWhole)
    (arg5 : Memref sig .tc .vmem S1x128 .bf16) (harg5 : arg5.IsWhole)
    (arg6 : Memref sig .tc .vmem S1x128 .bf16) (harg6 : arg6.IsWhole)
    (arg7 : Memref sig .tc .vmem S1024x512 .bf16) (harg7 : arg7.IsWhole)
    (arg8 : Memref sig .tc .vmem S1024x512 .bf16) (harg8 : arg8.IsWhole)
    (arg9 : Memref sig .tc .vmem S1024x512 .bf16) (harg9 : arg9.IsWhole)
    (arg10 : Memref sig .tc .vmem S8192x512 .bf16) (harg10 : arg10.IsWhole)
    (hc0 : k0_cond1 i = 1#1) (hc1 : ¬ k0_cond2 i = 1#1) (hc2 : ¬ k0_cond3 i = 1#1)
    (x0 : Vec F S1024x8192 .bf16) (x1 : Vec F S8192x512 .fp8e4m3) (x2 : Vec F S64x80 .f32) (x3 : Vec F S1x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg7 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg7 fullShare (qBlk (dotBlk i x0 x1 x2) x3) ∗ (∃ d, owns (c : Thread nD τ) arg10 fullShare d)) -∗ K ⟨⟩))
      ⊢ wp frame (wpE (defs₀ (F := F)) Variants.none c none) E (cc0_qkv_matmul i arg2 harg2 arg3 harg3 arg4 harg4 arg5 harg5 arg6 harg6 arg7 harg7 arg8 harg8 arg9 harg9 arg10 harg10) K := by
  rw [(afterDot i arg2 harg2 arg3 harg3 arg4 harg4 arg5 harg5 arg6 harg6 arg7 harg7 arg8 harg8 arg9 harg9 arg10 harg10).2, wp_bind]
  iintro ⟨H0, H1, H2, H3, HO, HS, Hk⟩
  iapply (dotRun c i arg2 harg2 arg3 harg3 arg4 harg4 arg5 harg5 arg6 harg6 arg7 harg7 arg8 harg8 arg9 harg9 arg10 harg10 x0 x1 x2).2
  isplitl [H0]; · iexact H0
  isplitl [H1]; · iexact H1
  isplitl [H2]; · iexact H2
  isplitl [HS]; · iexact HS
  iintro ⟨H0, H1, H2, HS⟩
  rw [dotRun_val]
  unfold afterDot
  dsimp only
  simp only [k0_part1_eq_skeleton]; unfold k0_part1_skel
  unfold owns
  icases H3 with ⟨%f3, %hf3, H3⟩
  icases HO with ⟨%d5, %f5, -, H5⟩
  obtain rfl := harg5.eq_unread hf3
  sl_exec (disch := first | sl_exact hc0 | sl_exact hc1 | sl_exact hc2)
  sl_step
  rw [show View.readAt (Elt F) arg5.view (Rect.unit (s := S1x128) ![0, 0] S1x128.size inb_S1x128_S1x128_0_0).toLoadRect (harg5.unread x3) = x3 from by
    rw [View.readAt_eq_ld, harg5.read_unread, View.ld_unit_zero (by funext d; fin_cases d <;> rfl)]]
  iapply Hk
  isplitl [H0]; · iexact H0
  isplitl [H1]; · iexact H1
  isplitl [H2]; · iexact H2
  isplitl [H3]
  · iexists _; isplitr; · ipureintro; exact hf3
    iexact H3
  isplitl [H5]
  · iexists _; isplitr; swap; · iexact H5
    ipureintro
    exact View.read_writes_full (s := S1024x512) _ _ inb_S1024x512_S1024x512_0_0 _ []
  iexact HS

/-- The body at a point that writes a block of keys. -/
theorem bodyK (c : Dev nD) (i : grid0.Coords) (arg2 : Memref sig .tc .vmem S1024x8192 .bf16) (harg2 : arg2.IsWhole)
    (arg3 : Memref sig .tc .vmem S8192x512 .fp8e4m3) (harg3 : arg3.IsWhole)
    (arg4 : Memref sig .tc .smem S64x80 .f32) (harg4 : arg4.IsWhole)
    (arg5 : Memref sig .tc .vmem S1x128 .bf16) (harg5 : arg5.IsWhole)
    (arg6 : Memref sig .tc .vmem S1x128 .bf16) (harg6 : arg6.IsWhole)
    (arg7 : Memref sig .tc .vmem S1024x512 .bf16) (harg7 : arg7.IsWhole)
    (arg8 : Memref sig .tc .vmem S1024x512 .bf16) (harg8 : arg8.IsWhole)
    (arg9 : Memref sig .tc .vmem S1024x512 .bf16) (harg9 : arg9.IsWhole)
    (arg10 : Memref sig .tc .vmem S8192x512 .bf16) (harg10 : arg10.IsWhole)
    (hc0 : ¬ k0_cond1 i = 1#1) (hc1 : k0_cond2 i = 1#1) (hc2 : ¬ k0_cond3 i = 1#1)
    (x0 : Vec F S1024x8192 .bf16) (x1 : Vec F S8192x512 .fp8e4m3) (x2 : Vec F S64x80 .f32) (x3 : Vec F S1x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg6 fullShare x3
        ∗ (∃ d, owns (c : Thread nD τ) arg8 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg6 fullShare x3
            ∗ owns (c : Thread nD τ) arg8 fullShare (kBlk (dotBlk i x0 x1 x2) x3) ∗ (∃ d, owns (c : Thread nD τ) arg10 fullShare d)) -∗ K ⟨⟩))
      ⊢ wp frame (wpE (defs₀ (F := F)) Variants.none c none) E (cc0_qkv_matmul i arg2 harg2 arg3 harg3 arg4 harg4 arg5 harg5 arg6 harg6 arg7 harg7 arg8 harg8 arg9 harg9 arg10 harg10) K := by
  rw [(afterDot i arg2 harg2 arg3 harg3 arg4 harg4 arg5 harg5 arg6 harg6 arg7 harg7 arg8 harg8 arg9 harg9 arg10 harg10).2, wp_bind]
  iintro ⟨H0, H1, H2, H3, HO, HS, Hk⟩
  iapply (dotRun c i arg2 harg2 arg3 harg3 arg4 harg4 arg5 harg5 arg6 harg6 arg7 harg7 arg8 harg8 arg9 harg9 arg10 harg10 x0 x1 x2).2
  isplitl [H0]; · iexact H0
  isplitl [H1]; · iexact H1
  isplitl [H2]; · iexact H2
  isplitl [HS]; · iexact HS
  iintro ⟨H0, H1, H2, HS⟩
  rw [dotRun_val]
  unfold afterDot
  dsimp only
  simp only [k0_part2_eq_skeleton]; unfold k0_part2_skel
  unfold owns
  icases H3 with ⟨%f3, %hf3, H3⟩
  icases HO with ⟨%d5, %f5, -, H5⟩
  obtain rfl := harg6.eq_unread hf3
  sl_exec (disch := first | sl_exact hc0 | sl_exact hc1 | sl_exact hc2)
  sl_step
  rw [show View.readAt (Elt F) arg6.view (Rect.unit (s := S1x128) ![0, 0] S1x128.size inb_S1x128_S1x128_0_0).toLoadRect (harg6.unread x3) = x3 from by
    rw [View.readAt_eq_ld, harg6.read_unread, View.ld_unit_zero (by funext d; fin_cases d <;> rfl)]]
  iapply Hk
  isplitl [H0]; · iexact H0
  isplitl [H1]; · iexact H1
  isplitl [H2]; · iexact H2
  isplitl [H3]
  · iexists _; isplitr; · ipureintro; exact hf3
    iexact H3
  isplitl [H5]
  · iexists _; isplitr; swap; · iexact H5
    ipureintro
    exact View.read_writes_full (s := S1024x512) _ _ inb_S1024x512_S1024x512_0_0 _ []
  iexact HS

/-- The body at a point that writes a block of values. -/
theorem bodyV (c : Dev nD) (i : grid0.Coords) (arg2 : Memref sig .tc .vmem S1024x8192 .bf16) (harg2 : arg2.IsWhole)
    (arg3 : Memref sig .tc .vmem S8192x512 .fp8e4m3) (harg3 : arg3.IsWhole)
    (arg4 : Memref sig .tc .smem S64x80 .f32) (harg4 : arg4.IsWhole)
    (arg5 : Memref sig .tc .vmem S1x128 .bf16) (harg5 : arg5.IsWhole)
    (arg6 : Memref sig .tc .vmem S1x128 .bf16) (harg6 : arg6.IsWhole)
    (arg7 : Memref sig .tc .vmem S1024x512 .bf16) (harg7 : arg7.IsWhole)
    (arg8 : Memref sig .tc .vmem S1024x512 .bf16) (harg8 : arg8.IsWhole)
    (arg9 : Memref sig .tc .vmem S1024x512 .bf16) (harg9 : arg9.IsWhole)
    (arg10 : Memref sig .tc .vmem S8192x512 .bf16) (harg10 : arg10.IsWhole)
    (hc0 : ¬ k0_cond1 i = 1#1) (hc1 : ¬ k0_cond2 i = 1#1) (hc2 : k0_cond3 i = 1#1)
    (x0 : Vec F S1024x8192 .bf16) (x1 : Vec F S8192x512 .fp8e4m3) (x2 : Vec F S64x80 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg9 fullShare (vBlk (dotBlk i x0 x1 x2)) ∗ (∃ d, owns (c : Thread nD τ) arg10 fullShare d)) -∗ K ⟨⟩))
      ⊢ wp frame (wpE (defs₀ (F := F)) Variants.none c none) E (cc0_qkv_matmul i arg2 harg2 arg3 harg3 arg4 harg4 arg5 harg5 arg6 harg6 arg7 harg7 arg8 harg8 arg9 harg9 arg10 harg10) K := by
  rw [(afterDot i arg2 harg2 arg3 harg3 arg4 harg4 arg5 harg5 arg6 harg6 arg7 harg7 arg8 harg8 arg9 harg9 arg10 harg10).2, wp_bind]
  iintro ⟨H0, H1, H2, HO, HS, Hk⟩
  iapply (dotRun c i arg2 harg2 arg3 harg3 arg4 harg4 arg5 harg5 arg6 harg6 arg7 harg7 arg8 harg8 arg9 harg9 arg10 harg10 x0 x1 x2).2
  isplitl [H0]; · iexact H0
  isplitl [H1]; · iexact H1
  isplitl [H2]; · iexact H2
  isplitl [HS]; · iexact HS
  iintro ⟨H0, H1, H2, HS⟩
  rw [dotRun_val]
  unfold afterDot
  dsimp only
  unfold owns
  icases HO with ⟨%d5, %f5, -, H5⟩
  sl_exec (disch := first | sl_exact hc0 | sl_exact hc1 | sl_exact hc2)
  sl_step
  iapply Hk
  isplitl [H0]; · iexact H0
  isplitl [H1]; · iexact H1
  isplitl [H2]; · iexact H2
  isplitl [H5]
  · iexists _; isplitr; swap; · iexact H5
    ipureintro
    exact View.read_writes_full (s := S1024x512) _ _ inb_S1024x512_S1024x512_0_0 _ []
  iexact HS

end Cert.Proof.Qkv

end
-- ==== Proof.Run.lean ====
/- The kernel's run over the grid: what each staging buffer holds after every point, the body's obligation from the three
   triples, and the frame.  Grid point `t` is row block `t / 20`, column block `t % 20`: 16 blocks of queries, two of keys,
   two of values.  A window idle at a point keeps the last block written to it in the same row. -/
module

public import proofs.«01_k».proof.Proof.Body
public import Idealize.ShloMosaic.Lib.Pipeline.TableIdle
public import Idealize.ShloMosaic.Lib.Claim

@[expose] public section

set_option maxRecDepth 16384

noncomputable section

namespace Cert.Proof.Qkv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The body's three conditions, in closed form. -/
theorem cond1_iff : ∀ t : Fin cfg0.N, k0_cond1 (grid0.coords t) = 1#1 ↔ t.val % 20 ≤ 15 :=
  (by decide +kernel : ∀ t : Fin grid0.N, k0_cond1 (grid0.coords t) = 1#1 ↔ t.val % 20 ≤ 15)
theorem cond2_iff : ∀ t : Fin cfg0.N, k0_cond2 (grid0.coords t) = 1#1 ↔ (16 ≤ t.val % 20 ∧ t.val % 20 ≤ 17) :=
  (by decide +kernel : ∀ t : Fin grid0.N, k0_cond2 (grid0.coords t) = 1#1 ↔ (16 ≤ t.val % 20 ∧ t.val % 20 ≤ 17))
theorem cond3_iff : ∀ t : Fin cfg0.N, k0_cond3 (grid0.coords t) = 1#1 ↔ 18 ≤ t.val % 20 :=
  (by decide +kernel : ∀ t : Fin grid0.N, k0_cond3 (grid0.coords t) = 1#1 ↔ 18 ≤ t.val % 20)

/-- Where the outputs are idle: wherever their block is not written. -/
theorem idle5 : ∀ t : Fin cfg0.N, cfg0.idle 5 (grid0.coords t) = decide (16 ≤ t.val % 20) :=
  (by decide +kernel : ∀ t : Fin grid0.N, cfg0.idle 5 (grid0.coords t) = decide (16 ≤ t.val % 20))
theorem idle6 : ∀ t : Fin cfg0.N, cfg0.idle 6 (grid0.coords t) = decide (t.val % 20 < 16 ∨ 18 ≤ t.val % 20) :=
  (by decide +kernel : ∀ t : Fin grid0.N, cfg0.idle 6 (grid0.coords t) = decide (t.val % 20 < 16 ∨ 18 ≤ t.val % 20))
theorem idle7 : ∀ t : Fin cfg0.N, cfg0.idle 7 (grid0.coords t) = decide (t.val % 20 < 18) :=
  (by decide +kernel : ∀ t : Fin grid0.N, cfg0.idle 7 (grid0.coords t) = decide (t.val % 20 < 18))

/-- Where the outputs are written back. -/
theorem flush5 : ∀ t : Fin cfg0.N, (cfg0.win 5).flush t = decide (t.val % 20 < 15 ∨ t.val % 20 = 19) := fun t => by
  rw [Pipeline.Window.flush_eq_flushF]
  exact (by decide +kernel : ∀ t : Fin grid0.N, win0_5.flushF t = decide (t.val % 20 < 15 ∨ t.val % 20 = 19)) t
theorem flush6 : ∀ t : Fin cfg0.N, (cfg0.win 6).flush t = decide (t.val % 20 = 16 ∨ t.val % 20 = 19) := fun t => by
  rw [Pipeline.Window.flush_eq_flushF]
  exact (by decide +kernel : ∀ t : Fin grid0.N, win0_6.flushF t = decide (t.val % 20 = 16 ∨ t.val % 20 = 19)) t
theorem flush7 : ∀ t : Fin cfg0.N, (cfg0.win 7).flush t = decide (18 ≤ t.val % 20) := fun t => by
  rw [Pipeline.Window.flush_eq_flushF]
  exact (by decide +kernel : ∀ t : Fin grid0.N, win0_7.flushF t = decide (18 ≤ t.val % 20)) t

/-- Whether a window's current buffer has not been written since it was last written back. -/
theorem fresh5 (n : ℕ) (hn : n ≤ cfg0.N) : cfg0.fresh 5 n = decide (n % 20 < 16) :=
  Pipeline.Cfg.fresh_tab cfg0 5 (fun n => decide (n % 20 < 16)) rfl (fun t => by
    rw [flush5, idle5, ← Bool.decide_and, ← Bool.decide_or]
    exact decide_eq_decide.mpr (by omega)) n hn
theorem fresh6 (n : ℕ) (hn : n ≤ cfg0.N) : cfg0.fresh 6 n = decide (n % 20 < 18) :=
  Pipeline.Cfg.fresh_tab cfg0 6 (fun n => decide (n % 20 < 18)) rfl (fun t => by
    rw [flush6, idle6, ← Bool.decide_and, ← Bool.decide_or]
    exact decide_eq_decide.mpr (by omega)) n hn

/-- The point of row `t / 20` at column block `r`. -/
def pt (t : Fin cfg0.N) (r : ℕ) (hr : r < 20) : Fin cfg0.N :=
  ⟨t.val / 20 * 20 + r, by have : t.val < 60 := lt_of_lt_of_eq t.isLt N_0; exact lt_of_lt_of_eq (by omega : _ < 60) N_0.symm⟩

/-- The point whose block each output's buffer holds after point `t`. -/
def qPt (t : Fin cfg0.N) : Fin cfg0.N := pt t (min (t.val % 20) 15) (by omega)
def kPt (t : Fin cfg0.N) : Fin cfg0.N := pt t (min (max (t.val % 20) 16) 17) (by omega)
def vPt (t : Fin cfg0.N) : Fin cfg0.N := pt t (max (t.val % 20) 18) (by omega)

/-! ## The proof data -/

/-- The product block of point `t`. -/
def dotAt (c : Dev nD) (t : Fin cfg0.N) : FVec F S1024x512 .f32 :=
  dotBlk (grid0.coords t) (iblk m c 0 t) (iblk m c 1 t) (iblk m c 2 t)
/-- The blocks written at point `t`. -/
def qAt (c : Dev nD) (t : Fin cfg0.N) : FVec F S1024x512 .bf16 := qBlk (dotAt m c t) (iblk m c 3 t)
def kAt (c : Dev nD) (t : Fin cfg0.N) : FVec F S1024x512 .bf16 := kBlk (dotAt m c t) (iblk m c 4 t)
def vAt (c : Dev nD) (t : Fin cfg0.N) : FVec F S1024x512 .bf16 := vBlk (dotAt m c t)

/-- The arrays as the region finds them; after each point an input's buffer at its block and an output's at the last block
    written in the row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => qAt m c (qPt t)
    | ⟨6, _⟩ => kAt m c (kPt t)
    | ⟨7, _⟩ => vAt m c (vPt t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = qAt m c (qPt t) := by dsimp only [dats]
theorem after_6 (c : Dev nD) (t : Fin cfg0.N) : (dats m 0 c).after 6 t = kAt m c (kPt t) := by dsimp only [dats]
theorem after_7 (c : Dev nD) (t : Fin cfg0.N) : (dats m 0 c).after 7 t = vAt m c (vPt t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- At an idle point that holds a written block, the buffer holds the block named after the point. -/
theorem before_5 (c : Dev nD) (t : Fin cfg0.N) (h : 16 ≤ t.val % 20) (d) :
    (dats m 0 c).before 5 t d = (dats m 0 c).after 5 t := by
  rw [Dat.before_out_traj (dat := dats m 0 c) 5 rfl (fun _ _ => rfl) (fun t _ hi _ => ?_) t.val t rfl d, fresh5 _ t.isLt.le, if_neg (by simpa using h),
    after_5, after_5]
  · congr 1; exact Fin.ext (by simp only [qPt, pt]; omega)
  · rw [idle5] at hi
    have hi := of_decide_eq_true hi
    rw [after_5, after_5]
    congr 1; exact Fin.ext (by simp only [qPt, pt]; omega)
theorem before_6 (c : Dev nD) (t : Fin cfg0.N) (h : 18 ≤ t.val % 20) (d) :
    (dats m 0 c).before 6 t d = (dats m 0 c).after 6 t := by
  rw [Dat.before_out_traj (dat := dats m 0 c) 6 rfl (fun _ _ => rfl) (fun t _ hi hf => ?_) t.val t rfl d, fresh6 _ t.isLt.le, if_neg (by simpa using h),
    after_6, after_6]
  · congr 1; exact Fin.ext (by simp only [kPt, pt]; omega)
  · rw [fresh6 _ t.isLt.le] at hf
    have hf := of_decide_eq_false hf
    rw [after_6, after_6]
    congr 1; exact Fin.ext (by simp only [kPt, pt]; omega)

/-- A live window is left at what the proof data names. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- An idle window handed back untouched is left as the obligation asks. -/
theorem leaves_untouched (c : Dev nD) (w : Fin cfg0.W) (t : Fin cfg0.N) (h : cfg0.idle w (grid0.coords t) = true)
    (hf : (cfg0.win w).flush t = true → ∀ d, (dats m 0 c).before w t d = (dats m 0 c).after w t) :
    (iprop(∃ d, owns (c : Thread nD τ) ((cfg0.win w).stage (cfg0.slots t w)) fullShare ((dats m 0 c).before w t d)) : sProp 𝕄)
      ⊢ (dats m 0 c).leavesExact w t := by
  unfold Dat.leavesExact; rw [h]
  cases hfl : (cfg0.win w).flush t
  · exact .rfl
  · iintro ⟨%d, H⟩
    rw [hf hfl d]
    iexact H

/-- The invariant with the scratch buffer as a memref owned at some contents. -/
theorem PhiA_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA_eq]
  rw [leaves_live m c 0 t rfl, leaves_live m c 1 t rfl, leaves_live m c 2 t rfl, leaves_live m c 3 t rfl, leaves_live m c 4 t rfl,
    after_0, after_1, after_2, after_3, after_4]
  iintro ⟨⟨HS, Hg⟩, Ho, ⟨%d0, H0⟩, ⟨%d1, H1⟩, ⟨%d2, H2⟩, ⟨%d3, H3⟩, ⟨%d4, H4⟩, H5, H6, H7⟩
  by_cases h0 : t.val % 20 ≤ 15
  · iapply (bodyQ c (grid0.coords t) _ _ _ _ _ _ _ _ _ _ _ _ _ _ _ _ _ _ ((cond1_iff t).mpr (by omega)) (fun h => absurd ((cond2_iff t).mp h) (by omega)) (fun h => absurd ((cond3_iff t).mp h) (by omega)) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H5]; · icases H5 with ⟨%d, H5⟩; iexists _; iexact H5
    isplitl [HS]; · iexact HS
    iintro ⟨H0, H1, H2, H3, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · rw [leaves_live m c 5 t (by rw [idle5]; exact decide_eq_false (by omega)), after_5,
        show qPt t = t from Fin.ext (by simp only [qPt, pt]; omega)]
      iexact H5
    isplitl [H6]
    · iapply (leaves_untouched m c 6 t (by rw [idle6]; exact decide_eq_true (by omega)) (fun hf => absurd (of_decide_eq_true ((flush6 t).symm.trans hf)) (by omega)))
      iexact H6
    · iapply (leaves_untouched m c 7 t (by rw [idle7]; exact decide_eq_true (by omega)) (fun hf => absurd (of_decide_eq_true ((flush7 t).symm.trans hf)) (by omega)))
      iexact H7
  by_cases h1 : t.val % 20 ≤ 17
  · iapply (bodyK c (grid0.coords t) _ _ _ _ _ _ _ _ _ _ _ _ _ _ _ _ _ _ (fun h => absurd ((cond1_iff t).mp h) (by omega)) ((cond2_iff t).mpr (by omega)) (fun h => absurd ((cond3_iff t).mp h) (by omega)) (iblk m c 0 t) (iblk m c 1 t) (iblk m c 2 t) (iblk m c 4 t) Set.univ _)
    isplitl [H0]; · iexact H0
    isplitl [H1]; · iexact H1
    isplitl [H2]; · iexact H2
    isplitl [H4]; · iexact H4
    isplitl [H6]; · icases H6 with ⟨%d, H6⟩; iexists _; iexact H6
    isplitl [HS]; · iexact HS
    iintro ⟨H0, H1, H2, H4, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (leaves_untouched m c 5 t (by rw [idle5]; exact decide_eq_true (by omega)) (fun _ => before_5 m c t (by omega)))
      iexact H5
    isplitl [H6]
    · rw [leaves_live m c 6 t (by rw [idle6]; exact decide_eq_false (by omega)), after_6,
        show kPt t = t from Fin.ext (by simp only [kPt, pt]; omega)]
      iexact H6
    · iapply (leaves_untouched m c 7 t (by rw [idle7]; exact decide_eq_true (by omega)) (fun hf => absurd (of_decide_eq_true ((flush7 t).symm.trans hf)) (by omega)))
      iexact H7
  · iapply (bodyV c (grid0.coords t) _ _ _ _ _ _ _ _ _ _ _ _ _ _ _ _ _ _ (fun h => absurd ((cond1_iff t).mp h) (by omega)) (fun h => absurd ((cond2_iff t).mp h) (by omega)) ((cond3_iff t).mpr (by omega)) (iblk m c 0 t) (iblk m c 1 t) (iblk m c 2 t) Set.univ _)
    isplitl [H0]; · iexact H0
    isplitl [H1]; · iexact H1
    isplitl [H2]; · iexact H2
    isplitl [H7]; · icases H7 with ⟨%d, H7⟩; iexists _; iexact H7
    isplitl [HS]; · iexact HS
    iintro ⟨H0, H1, H2, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (leaves_untouched m c 5 t (by rw [idle5]; exact decide_eq_true (by omega)) (fun _ => before_5 m c t (by omega)))
      iexact H5
    isplitl [H6]
    · iapply (leaves_untouched m c 6 t (by rw [idle6]; exact decide_eq_true (by omega)) (fun _ => before_6 m c t (by omega)))
      iexact H6
    · rw [leaves_live m c 7 t (by rw [idle7]; exact decide_eq_false (by omega)), after_7,
        show vPt t = t from Fin.ext (by simp only [vPt, pt]; omega)]
      iexact H7

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every final state has the pipeline's arrays at what the proof data says, and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Proof.Qkv

end
-- ==== Proof.KernelFrame.lean ====
/- The kernel as printed and the kernel printed for reading at the ideal instance are the same program, so the frame proved of
   the one is the frame of the other. -/
module

public import proofs.«01_k».proof.Proof.Run
public import proofs.«01_k».proof.Proof.Gen.Kernel.Frame

@[expose] public section

set_option maxRecDepth 16384

noncomputable section

namespace Cert.Proof.Qkv

open Idealize.ShloMosaic Idealize.ShloMosaic.TcCoe Idealize.SL.Sem

variable {F : FTy → Type} [FloatOps F]

set_option maxHeartbeats 1600000 in
theorem kernel_main_eq : Cert.Kernel.main (F := F) = Cert.KernelIdeal.main (F := F) := by
  sl_kernel_rfl

set_option maxHeartbeats 1600000 in
theorem kernel_defs_eq : Cert.Kernel.defs (F := F) = Cert.KernelIdeal.defs (F := F) := by
  sl_kernel_rfl

set_option maxHeartbeats 1600000 in
/-- The frame of the kernel as printed. -/
theorem kernel_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [kernel_main_eq, kernel_defs_eq]
  exact frame (F := F) m ρ

end Cert.Proof.Qkv

end
-- ==== Proof.Math.lean ====
/- What the kernel body and the reference compute, element by element over the extended reals: a dot product with the scaled
   weight, and the normalisation of one head. -/
module

public import proofs.«01_k».proof.Proof.Body
public import proofs.«01_k».proof.Proof.Gen.ReferenceIdeal.Value
public import Idealize.ShloMosaic.Lib.Pointwise

@[expose] public section

set_option maxRecDepth 16384

noncomputable section

namespace Cert.Proof.Qkv

open Idealize.ShloMosaic
open Cert.KernelIdeal Cert.KernelIdeal.Gen

/-- Element `(r, j)` of the product: row `r` of `h` times column `j` of the weight, every weight times the scale of its
    128×128 tile. -/
def dotSum (h : Vec Ideal S3072x8192 .bf16) (w : Vec Ideal S8192x10240 .fp8e4m3) (s : Vec Ideal S64x80 .f32)
    (r : Fin 3072) (j : Fin 10240) : EReal :=
  ∑ k : Fin 8192, h (ix2 r k) * (w (ix2 k j) * s (ix2 ⟨k.val / 128, by omega⟩ ⟨j.val / 128, by omega⟩))

/-- Element `l` of a head `X` divided by the head's root mean square (with a small constant under the root), times a gain. -/
def headNorm (X : Fin 128 → EReal) (l : Fin 128) (g : EReal) : EReal :=
  X l * Ideal.rsqrt (Ideal.div (∑ x, X x * X x) (Ideal.ofBits .f32 0x43000000#32) + Ideal.ofBits .f32 0x358637BD#32) * g

/-- The gain of lane `l`, held in a one-row block. -/
def gainAt (g : Vec Ideal S1x128 .bf16) (l : Fin 128) : EReal := g (ix2 0 l)

/-! ## The kernel body -/

theorem dotBlk_apply (i : grid0.Coords) (x0 : Vec Ideal S1024x8192 .bf16) (x1 : Vec Ideal S8192x512 .fp8e4m3)
    (x2 : Vec Ideal S64x80 .f32) (p : Fin 1024) (q : Fin 512) :
    dotBlk (F := Ideal) i x0 x1 x2 (ix2 p q)
      = ∑ k : Fin 8192, x0 (ix2 p k) * (x1 (ix2 k q) * x2 (scaleIdx i (ix2 k q))) := by
  pointwise [dotBlk, k0_pay357, scaled]

/-- Query and key blocks: lane `q` belongs to head `q / 128` of the block. -/
theorem qBlk_apply (v : FVec Ideal S1024x512 .f32) (g : Vec Ideal S1x128 .bf16) (p : Fin 1024) (q : Fin 512) :
    qBlk (F := Ideal) v g (ix2 p q)
      = headNorm (fun x => v (ix2 p ⟨q.val / 128 * 128 + x.val, by omega⟩)) ⟨q.val % 128, by omega⟩
          (gainAt g ⟨q.val % 128, by omega⟩) := by
  pointwise [qBlk, k0_pay1, k0_pay5, k0_pay6, k0_pay7, k0_pay8, k0_pay9, k0_pay4]
  unfold headNorm gainAt
  by_cases h0 : q.val < 128
  · simp only [dif_pos h0, show q.val / 128 * 128 = 0 by omega, show q.val % 128 = q.val by omega, Nat.zero_add]
  · rw [dif_neg h0]
    by_cases h1 : q.val - 128 < 128
    · rw [dif_pos h1]; simp only [show q.val / 128 * 128 = 128 by omega, show q.val - 128 = q.val % 128 by omega]
    · rw [dif_neg h1]
      by_cases h2 : q.val - 128 - 128 < 128
      · rw [dif_pos h2]; simp only [show q.val / 128 * 128 = 256 by omega, show q.val - 128 - 128 = q.val % 128 by omega]
      · rw [dif_neg h2]
        simp only [show q.val / 128 * 128 = 384 by omega, show q.val - 128 - 128 - 128 = q.val % 128 by omega]

/-! ## The reference -/

theorem refDot_apply (h : Vec Ideal S3072x8192 .bf16) (w : Vec Ideal S8192x10240 .fp8e4m3) (s : Vec Ideal S64x80 .f32)
    (r : Fin 3072) (j : Fin 10240) : Cert.ReferenceIdeal.Gen.k0_pay4 (F := Ideal) w s h (ix2 r j) = dotSum h w s r j := by
  unfold dotSum
  pointwise [Cert.ReferenceIdeal.Gen.k0_pay4]

open Cert.ReferenceIdeal.Value in
theorem G5_apply (h : Vec Ideal S3072x8192 .bf16) (w : Vec Ideal S8192x10240 .fp8e4m3) (s : Vec Ideal S64x80 .f32)
    (a b : Vec Ideal S128 .bf16) (r : Fin 3072) (j : Fin 8192) :
    G5 (F := Ideal) h w s a b (ix2 r j)
      = headNorm (fun x => dotSum h w s r ⟨j.val / 128 * 128 + x.val, by omega⟩) ⟨j.val % 128, by omega⟩
          (a (ix1 ⟨j.val % 128, by omega⟩)) := by
  unfold headNorm
  simp only [← refDot_apply]
  pointwise [G5, Cert.ReferenceIdeal.Gen.k0_pay1, Cert.ReferenceIdeal.Gen.k0_pay6]
  simp only [Nat.div_add_mod']

open Cert.ReferenceIdeal.Value in
theorem G6_apply (h : Vec Ideal S3072x8192 .bf16) (w : Vec Ideal S8192x10240 .fp8e4m3) (s : Vec Ideal S64x80 .f32)
    (a b : Vec Ideal S128 .bf16) (r : Fin 3072) (j : Fin 1024) :
    G6 (F := Ideal) h w s a b (ix2 r j)
      = headNorm (fun x => dotSum h w s r ⟨8192 + (j.val / 128 * 128 + x.val), by omega⟩) ⟨j.val % 128, by omega⟩
          (b (ix1 ⟨j.val % 128, by omega⟩)) := by
  unfold headNorm
  simp only [← refDot_apply]
  pointwise [G6, Cert.ReferenceIdeal.Gen.k0_pay2, Cert.ReferenceIdeal.Gen.k0_pay7, Cert.ReferenceIdeal.Gen.k0_pay8]
  simp only [Nat.div_add_mod']

open Cert.ReferenceIdeal.Value in
theorem G7_apply (h : Vec Ideal S3072x8192 .bf16) (w : Vec Ideal S8192x10240 .fp8e4m3) (s : Vec Ideal S64x80 .f32)
    (a b : Vec Ideal S128 .bf16) (r : Fin 3072) (j : Fin 1024) :
    G7 (F := Ideal) h w s a b (ix2 r j) = dotSum h w s r ⟨9216 + j.val, by omega⟩ := by
  rw [← refDot_apply]
  pointwise [G7, Cert.ReferenceIdeal.Gen.k0_pay3, Cert.ReferenceIdeal.Gen.k0_pay5]

theorem vBlk_apply (v : FVec Ideal S1024x512 .f32) (p : Fin 1024) (q : Fin 512) :
    vBlk (F := Ideal) v (ix2 p q) = v (ix2 p q) := by
  pointwise [vBlk, k0_pay3]

end Cert.Proof.Qkv

end
-- ==== Proof.Final.lean ====
/- The result arrays after the kernel's run, over the extended reals: the blocks the grid points write back are the blocks of
   the reference's three results. -/
module

public import proofs.«01_k».proof.Proof.Run
public import proofs.«01_k».proof.Proof.Math
public import Idealize.ShloMosaic.Lib.Pipeline.ValueKit

@[expose] public section

set_option maxRecDepth 16384

noncomputable section

namespace Cert.Proof.Qkv

open Idealize.ShloMosaic Idealize.ShloMosaic.TcCoe Idealize.ShloMosaic.Tactic
open Cert.KernelIdeal Cert.KernelIdeal.Gen

variable (m : (ℓ : Loc nD τ sig) → Buf (Elt Ideal) ℓ) (c : Dev nD)

/-- The arguments as launched. -/
abbrev argH : Vec Ideal S3072x8192 .bf16 := m ((c : Thread nD τ).loc main_arg0)
abbrev argW : Vec Ideal S8192x10240 .fp8e4m3 := m ((c : Thread nD τ).loc main_arg1)
abbrev argS : Vec Ideal S64x80 .f32 := m ((c : Thread nD τ).loc main_arg2)
abbrev argQ : Vec Ideal S128 .bf16 := m ((c : Thread nD τ).loc main_arg3)
abbrev argK : Vec Ideal S128 .bf16 := m ((c : Thread nD τ).loc main_arg4)

/-! ## The blocks the body is given -/

theorem lt_N (t : Fin cfg0.N) : t.val < 60 := lt_of_lt_of_eq t.isLt N_0

theorem index0 : ∀ t : Fin cfg0.N, win0_0.index t (0 : Fin 2) = t.val / 20 ∧ win0_0.index t (1 : Fin 2) = 0 :=
  (by decide +kernel : ∀ t : Fin grid0.N, _)
theorem index1 : ∀ t : Fin cfg0.N, win0_1.index t (0 : Fin 2) = 0 ∧ win0_1.index t (1 : Fin 2) = t.val % 20 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem coord1 : ∀ t : Fin cfg0.N, (grid0.coords t (1 : Fin 2)).val = t.val % 20 :=
  (by decide +kernel : ∀ t : Fin grid0.N, _)

theorem iblk0_apply (t : Fin cfg0.N) (p : Fin 1024) (k : Fin 8192) :
    iblk m c 0 t (ix2 p k) = argH m c (ix2 ⟨t.val / 20 * 1024 + p.val, by have := lt_N t; omega⟩ k) := by
  rw [argH, ← V_main_arg0 m c]
  obtain ⟨e0, e1⟩ := index0 t
  blk_ext [iblk, e0, e1]

theorem iblk1_apply (t : Fin cfg0.N) (k : Fin 8192) (q : Fin 512) :
    iblk m c 1 t (ix2 k q) = argW m c (ix2 k ⟨t.val % 20 * 512 + q.val, by omega⟩) := by
  rw [argW, ← V_main_arg1 m c]
  obtain ⟨e0, e1⟩ := index1 t
  blk_ext [iblk, e0, e1]

theorem iblk2_apply (t : Fin cfg0.N) (a : Fin 64) (b : Fin 80) : iblk m c 2 t (ix2 a b) = argS m c (ix2 a b) := by
  rw [argS, ← V_main_arg2 m c]
  obtain ⟨e0, e1⟩ := index2 t
  blk_ext [iblk, e0, e1]

theorem V_main_v0 : V m c main_v0 = shapeCast S1x128 (argQ m c) shapeCasts_S128_S1x128 := by
  entry_read
  rfl

theorem V_main_v1 : V m c main_v1 = shapeCast S1x128 (argK m c) shapeCasts_S128_S1x128 := by
  entry_read
  rfl

theorem gain3 (t : Fin cfg0.N) (l : Fin 128) : gainAt (iblk m c 3 t) l = argQ m c (ix1 l) := by
  have e : gainAt (iblk m c 3 t) l = V m c main_v0 (ix2 0 l) := by
    obtain ⟨e0, e1⟩ := index3 t
    unfold gainAt
    blk_ext [iblk, e0, e1]
  rw [e, V_main_v0]
  pointwise

theorem gain4 (t : Fin cfg0.N) (l : Fin 128) : gainAt (iblk m c 4 t) l = argK m c (ix1 l) := by
  have e : gainAt (iblk m c 4 t) l = V m c main_v1 (ix2 0 l) := by
    obtain ⟨e0, e1⟩ := index4 t
    unfold gainAt
    blk_ext [iblk, e0, e1]
  rw [e, V_main_v1]
  pointwise

/-- The product block of a grid point is its block of the product. -/
theorem dotAt_apply (t : Fin cfg0.N) (p : Fin 1024) (q : Fin 512) :
    dotAt m c t (ix2 p q) = dotSum (argH m c) (argW m c) (argS m c)
      ⟨t.val / 20 * 1024 + p.val, by have := lt_N t; omega⟩ ⟨t.val % 20 * 512 + q.val, by omega⟩ := by
  unfold dotAt dotSum
  rw [dotBlk_apply]
  refine Finset.sum_congr rfl fun k _ => ?_
  have es : scaleIdx (grid0.coords t) (ix2 k q)
      = ix2 ⟨k.val / 128, by omega⟩ ⟨(t.val % 20 * 512 + q.val) / 128, by omega⟩ := by
    rw [ix2_eq_valueIdx]
    unfold scaleIdx
    congr 1
    apply Fin.ext
    have := coord1 t
    show 4 * (grid0.coords t (1 : Fin 2)).val + q.val / 128 = (t.val % 20 * 512 + q.val) / 128
    omega
  rw [iblk0_apply, iblk1_apply, es, iblk2_apply]

/-! ## The result arrays -/

theorem index5 : ∀ t : Fin cfg0.N, win0_5.index t (0 : Fin 2) = t.val / 20 ∧ win0_5.index t (1 : Fin 2) = min (t.val % 20) 15 :=
  (by decide +kernel : ∀ t : Fin grid0.N, _)
theorem index6 : ∀ t : Fin cfg0.N, win0_6.index t (0 : Fin 2) = t.val / 20 ∧ win0_6.index t (1 : Fin 2) = min (max (t.val % 20) 16) 17 - 16 :=
  (by decide +kernel : ∀ t : Fin grid0.N, _)
theorem index7 : ∀ t : Fin cfg0.N, win0_7.index t (0 : Fin 2) = t.val / 20 ∧ win0_7.index t (1 : Fin 2) = max (t.val % 20) 18 - 18 :=
  (by decide +kernel : ∀ t : Fin grid0.N, _)

theorem qPt_div (t : Fin cfg0.N) : (qPt t).val / 20 = t.val / 20 := by unfold qPt pt; show (_ + _) / 20 = _; omega
theorem kPt_div (t : Fin cfg0.N) : (kPt t).val / 20 = t.val / 20 := by unfold kPt pt; show (_ + _) / 20 = _; omega
theorem vPt_div (t : Fin cfg0.N) : (vPt t).val / 20 = t.val / 20 := by unfold vPt pt; show (_ + _) / 20 = _; omega
theorem qPt_mod (t : Fin cfg0.N) : (qPt t).val % 20 = min (t.val % 20) 15 := by unfold qPt pt; show (_ + _) % 20 = _; omega
theorem kPt_mod (t : Fin cfg0.N) : (kPt t).val % 20 = min (max (t.val % 20) 16) 17 := by
  unfold kPt pt; show (_ + _) % 20 = _; omega
theorem vPt_mod (t : Fin cfg0.N) : (vPt t).val % 20 = max (t.val % 20) 18 := by unfold vPt pt; show (_ + _) % 20 = _; omega

theorem dotSum_congr {h : Vec Ideal S3072x8192 .bf16} {w : Vec Ideal S8192x10240 .fp8e4m3} {s : Vec Ideal S64x80 .f32}
    {r r' : Fin 3072} {j j' : Fin 10240} (hr : r.val = r'.val) (hj : j.val = j'.val) :
    dotSum h w s r j = dotSum h w s r' j' := by
  rw [Fin.ext hr, Fin.ext hj]

theorem headNorm_congr {X Y : Fin 128 → EReal} {l l' : Fin 128} {g : Vec Ideal S128 .bf16}
    (hX : ∀ x, X x = Y x) (hl : l.val = l'.val) : headNorm X l (g (ix1 l)) = headNorm Y l' (g (ix1 l')) := by
  rw [funext hX, Fin.ext hl]

open Cert.ReferenceIdeal.Value in
theorem final5 : (dats m 0 c).arrAt 5 cfg0.N = G5 (F := Ideal) (argH m c) (argW m c) (argS m c) (argQ m c) (argK m c) := by
  refine (dats m 0 c).arrAt_eq_of_covers 5 _ (by decide +kernel) fun t hf y => ?_
  blk_simp
  rw [after_5]
  obtain ⟨e0, e1⟩ := index5 t
  have hN := lt_N t
  have d := qPt_div t
  have r := qPt_mod t
  idx_vars y
  rw [show ((View.whole main_v2_0).slice (win0_5.rect t)).emb (ix2 y0 y1)
      = ix2 ⟨t.val / 20 * 1024 + y0.val, by omega⟩ ⟨min (t.val % 20) 15 * 512 + y1.val, by omega⟩ by
    blk_ext [e0, e1]]
  unfold qAt
  rw [qBlk_apply, gain3, G5_apply]
  refine headNorm_congr (fun x => ?_) ?_
  · rw [dotAt_apply]
    apply dotSum_congr <;> dsimp only <;> omega
  · dsimp only; omega

open Cert.ReferenceIdeal.Value in
theorem final6 : (dats m 0 c).arrAt 6 cfg0.N = G6 (F := Ideal) (argH m c) (argW m c) (argS m c) (argQ m c) (argK m c) := by
  refine (dats m 0 c).arrAt_eq_of_covers 6 _ (by decide +kernel) fun t hf y => ?_
  blk_simp
  rw [after_6]
  obtain ⟨e0, e1⟩ := index6 t
  have hN := lt_N t
  have d := kPt_div t
  have r := kPt_mod t
  idx_vars y
  rw [show ((View.whole main_v2_1).slice (win0_6.rect t)).emb (ix2 y0 y1)
      = ix2 ⟨t.val / 20 * 1024 + y0.val, by omega⟩ ⟨(min (max (t.val % 20) 16) 17 - 16) * 512 + y1.val, by omega⟩ by
    blk_ext [e0, e1]]
  unfold kAt
  rw [kBlk_eq, qBlk_apply, gain4, G6_apply]
  refine headNorm_congr (fun x => ?_) ?_
  · rw [dotAt_apply]
    apply dotSum_congr <;> dsimp only <;> omega
  · dsimp only; omega

open Cert.ReferenceIdeal.Value in
theorem final7 : (dats m 0 c).arrAt 7 cfg0.N = G7 (F := Ideal) (argH m c) (argW m c) (argS m c) (argQ m c) (argK m c) := by
  refine (dats m 0 c).arrAt_eq_of_covers 7 _ (by decide +kernel) fun t hf y => ?_
  blk_simp
  rw [after_7]
  obtain ⟨e0, e1⟩ := index7 t
  have hN := lt_N t
  have d := vPt_div t
  have r := vPt_mod t
  idx_vars y
  rw [show ((View.whole main_v2_2).slice (win0_7.rect t)).emb (ix2 y0 y1)
      = ix2 ⟨t.val / 20 * 1024 + y0.val, by omega⟩ ⟨(max (t.val % 20) 18 - 18) * 512 + y1.val, by omega⟩ by
    blk_ext [e0, e1]]
  unfold vAt
  rw [vBlk_apply, dotAt_apply, G7_apply]
  apply dotSum_congr <;> dsimp only <;> omega

end Cert.Proof.Qkv

end
-- ==== Proof.Pow2.lean ====
/- The power of two above a number, in the two ways the programs take it: from the exponent field of its float pattern, found by
   comparing with the 256 patterns that are a bare exponent, and as the least of the powers 2^-126 … 2^128 that exceeds it. -/
module

public import Idealize.ShloMosaic.Lib.Pointwise
public import Idealize.ShloMosaic.Lib.SortNet.Extract

@[expose] public section

noncomputable section

namespace Cert.Proof.Norm

open Idealize.ShloMosaic

/-- The f32 pattern with exponent field `k` and nothing else. -/
def field (k : Fin 256) : BitVec 32 := BitVec.ofNat 32 k.val <<< 23

/-- A pattern read as a float. -/
abbrev asFloat (b : BitVec 32) : EReal := Ideal.ofBits .f32 b

/-- The largest bare exponent pattern that is at most `y`, by the signed maximum over the 256 of them. -/
def topField (y : EReal) : BitVec 32 :=
  (Finset.univ : Finset (Fin 256)).fold IntOp.maxsi 2147483648#32 (fun k => if asFloat (field k) ≤ y then field k else 0#32)

/-- The pattern of the scale: one exponent above `topField`, and the pattern of one where that is zero. -/
def scaleBits (y : EReal) : BitVec 32 := if topField y = 0#32 then 1065353216#32 else topField y + 8388608#32

/-- The power of two with integer exponent. -/
def pow2 (n : ℤ) : EReal := ((2 : ℝ) ^ n : ℝ)

/-- The least of the powers 2^-126 … 2^128 that exceeds `y`. -/
def powAbove (y : EReal) : EReal :=
  (Finset.univ : Finset (Fin 255)).fold min ⊤ (fun k => if y < pow2 ((k.val : ℤ) - 126) then pow2 ((k.val : ℤ) - 126) else ⊤)

/-- The scale that the reference takes. -/
def scaleOf (y : EReal) : EReal := if y < pow2 (-126) then 1 else powAbove y

theorem pow2_lt {a b : ℤ} : pow2 a < pow2 b ↔ a < b := by
  unfold pow2
  rw [EReal.coe_lt_coe_iff]
  exact zpow_lt_zpow_iff_right₀ (by norm_num)

theorem pow2_le {a b : ℤ} : pow2 a ≤ pow2 b ↔ a ≤ b := by
  unfold pow2
  rw [EReal.coe_le_coe_iff]
  exact zpow_le_zpow_iff_right₀ (by norm_num)

theorem pow2_pos (a : ℤ) : 0 < pow2 a := by
  unfold pow2
  exact EReal.coe_pos.mpr (zpow_pos (by norm_num) a)

theorem field_bits : ∀ k : Fin 256, ((field k).extractLsb' (8 + 23) 1 == 1#1) = false ∧ ((field k).extractLsb' 23 8).toNat = k.val
    ∧ ((field k).extractLsb' 0 23).toNat = 0 := by
  unfold field
  decide +kernel

theorem field_toInt : ∀ k : Fin 256, k.val < 255 → (field k).toInt = k.val * 8388608 := by
  unfold field
  decide +kernel

theorem pow2_shift (a : ℤ) : (1 : ℝ) * ((8388608 : ℕ) : ℝ) * (2 : ℝ) ^ (a - 127 - 23) = (2 : ℝ) ^ (a - 127) := by
  have h : ((8388608 : ℕ) : ℝ) = (2 : ℝ) ^ (23 : ℤ) := by norm_num
  rw [one_mul, h, ← zpow_add₀ (by norm_num)]
  congr 1
  ring

theorem asFloat_field (k : Fin 256) (h0 : 0 < k.val) (h1 : k.val < 255) : asFloat (field k) = pow2 ((k.val : ℤ) - 127) := by
  obtain ⟨e1, e2, e3⟩ := field_bits k
  unfold asFloat Ideal.ofBits Ideal.ieee pow2
  simp only [e1, e2, e3]
  rw [if_neg (show ¬ k.val = 2 ^ 8 - 1 by omega), if_neg (show ¬ k.val = 0 by omega)]
  exact congrArg _ (pow2_shift _)

theorem asFloat_top (y : EReal) (hy : y < ⊤) : ¬ asFloat (field 255) ≤ y := by
  obtain ⟨e1, e2, e3⟩ := field_bits 255
  unfold asFloat Ideal.ofBits Ideal.ieee
  simp only [e1, e2, e3]
  norm_num
  exact hy.ne

/-- Between two neighbouring powers of two, the largest pattern at most `y` is the lower power's. -/
theorem topField_eq (y : EReal) (n : Fin 256) (h0 : 0 < n.val) (h1 : n.val < 255) (hl : pow2 ((n.val : ℤ) - 127) ≤ y)
    (hu : y < pow2 ((n.val : ℤ) - 126)) : topField y = field n := by
  have hlt : y < ⊤ := lt_of_lt_of_le hu le_top
  obtain ⟨-, s2, s3⟩ := SortNet.fold_maxsi_spec (fun k : Fin 256 => if asFloat (field k) ≤ y then field k else 0#32)
    Finset.univ 2147483648#32
  have hn := s2 n (Finset.mem_univ n)
  simp only [asFloat_field n h0 h1, if_pos hl, field_toInt n h1] at hn
  change _ ≤ (topField y).toInt at hn
  change topField y = _ ∨ ∃ i ∈ _, topField y = _ at s3
  rcases s3 with s3 | ⟨k, -, s3⟩
  · rw [s3, show (2147483648#32 : BitVec 32).toInt = -2147483648 by decide] at hn
    omega
  · split at s3
    · rename_i hk
      by_cases k255 : k = 255
      · subst k255; exact absurd hk (asFloat_top y hlt)
      · have hk' : k.val < 255 := by
          have := k.isLt
          have : k.val ≠ 255 := fun h => k255 (Fin.ext h)
          omega
        rw [s3, field_toInt k hk'] at hn
        have hk0 : 0 < k.val := by omega
        rw [asFloat_field k hk0 hk'] at hk
        have := pow2_lt.mp (lt_of_le_of_lt hk hu)
        rw [s3]
        congr 1
        apply Fin.ext
        omega
    · rw [s3, show (0#32 : BitVec 32).toInt = 0 by decide] at hn
      omega

/-- Below the least normal float there is no pattern but zero. -/
theorem topField_small (y : EReal) (hy : y < pow2 (-126)) : topField y = 0#32 := by
  have hlt : y < ⊤ := lt_of_lt_of_le hy le_top
  obtain ⟨-, s2, s3⟩ := SortNet.fold_maxsi_spec (fun k : Fin 256 => if asFloat (field k) ≤ y then field k else 0#32)
    Finset.univ 2147483648#32
  have key : ∀ k : Fin 256, (if asFloat (field k) ≤ y then field k else 0#32) = 0#32 := by
    intro k
    split
    · rename_i hk
      by_cases k255 : k = 255
      · subst k255; exact absurd hk (asFloat_top y hlt)
      · have hk' : k.val < 255 := by
          have := k.isLt
          have : k.val ≠ 255 := fun h => k255 (Fin.ext h)
          omega
        by_cases k0 : k.val = 0
        · rw [show k = 0 from Fin.ext k0]; decide
        · rw [asFloat_field k (by omega) hk'] at hk
          have := pow2_lt.mp (lt_of_le_of_lt hk hy)
          omega
    · rfl
  have h0 := s2 0 (Finset.mem_univ 0)
  rw [key 0] at h0
  change _ ≤ (topField y).toInt at h0
  change topField y = _ ∨ ∃ i ∈ _, topField y = _ at s3
  rcases s3 with s3 | ⟨k, -, s3⟩
  · rw [s3] at h0
    exact absurd h0 (by decide)
  · exact s3.trans (key k)

/-- Between two neighbouring powers of two, the least power above is the upper one. -/
theorem powAbove_eq (y : EReal) (n : ℤ) (h0 : -126 ≤ n) (h1 : n ≤ 127) (hl : pow2 n ≤ y) (hu : y < pow2 (n + 1)) :
    powAbove y = pow2 (n + 1) := by
  unfold powAbove
  apply le_antisymm
  · rw [Finset.fold_min_le]
    refine Or.inr ⟨⟨(n + 127).toNat, by omega⟩, Finset.mem_univ _, ?_⟩
    have e : (((n + 127).toNat : ℕ) : ℤ) - 126 = n + 1 := by omega
    simp only [e, if_pos hu, le_refl]
  · rw [Finset.le_fold_min]
    refine ⟨le_top, fun k _ => ?_⟩
    split
    · rename_i hk
      have := pow2_lt.mp (lt_of_le_of_lt hl hk)
      exact pow2_le.mpr (by omega)
    · exact le_top

/-- Every number from 2^-126 up to below 2^126 lies between two neighbouring powers. -/
theorem exists_between (y : EReal) (hl : pow2 (-126) ≤ y) (hu : y < pow2 126) :
    ∃ n : ℤ, -126 ≤ n ∧ n < 126 ∧ pow2 n ≤ y ∧ y < pow2 (n + 1) := by
  have hlt : y ≠ ⊤ := (lt_of_lt_of_le hu le_top).ne
  have hgt : y ≠ ⊥ := (lt_of_lt_of_le (lt_of_le_of_lt bot_le (pow2_pos (-126))) hl).ne'
  lift y to ℝ using ⟨hlt, hgt⟩
  have hy : 0 < y := by
    have := lt_of_lt_of_le (pow2_pos (-126)) hl
    exact_mod_cast this
  obtain ⟨n, h1, h2⟩ := exists_mem_Ico_zpow hy (show (1 : ℝ) < 2 by norm_num)
  have a1 : pow2 n ≤ (y : EReal) := EReal.coe_le_coe_iff.mpr h1
  have a2 : (y : EReal) < pow2 (n + 1) := EReal.coe_lt_coe_iff.mpr h2
  have b1 := pow2_lt.mp (lt_of_le_of_lt hl a2)
  have b2 := pow2_lt.mp (lt_of_le_of_lt a1 hu)
  exact ⟨n, by omega, by omega, a1, a2⟩

theorem field_succ : ∀ k : Fin 256, 0 < k.val → k.val < 253 → field k ≠ 0#32 ∧ field k + 8388608#32 = field (k + 1)
    ∧ 2130706432#32 - field (k + 1) = field (253 - k) ∧ (k + 1).val = k.val + 1 ∧ (253 - k).val = 253 - k.val := by
  unfold field
  decide +kernel

/-- Below 2^126 the pattern's float is the reference's scale. -/
theorem asFloat_scaleBits (y : EReal) (hu : y < pow2 126) : asFloat (scaleBits y) = scaleOf y := by
  unfold scaleOf scaleBits
  by_cases h : y < pow2 (-126)
  · rw [topField_small y h, if_pos rfl, if_pos h]
    exact Ideal.ofBits_one_f32
  · obtain ⟨n, a, b, hl, hu'⟩ := exists_between y (not_lt.mp h) hu
    have en : (((n + 127).toNat : ℕ) : ℤ) = n + 127 := by omega
    have et : topField y = field ⟨(n + 127).toNat, by omega⟩ :=
      topField_eq y ⟨(n + 127).toNat, by omega⟩ (by show 0 < (n + 127).toNat; omega) (by show (n + 127).toNat < 255; omega)
        (by simpa [en] using hl) (by simpa [en, show n + 127 - 126 = n + 1 by ring] using hu')
    obtain ⟨f1, f2, -, f4, -⟩ := field_succ ⟨(n + 127).toNat, by omega⟩ (by show 0 < (n + 127).toNat; omega)
      (by show (n + 127).toNat < 253; omega)
    rw [et, if_neg f1, if_neg h, powAbove_eq y n a (by omega) hl hu', f2,
      asFloat_field _ (by rw [f4]; omega) (by rw [f4]; show (n + 127).toNat + 1 < 255; omega), f4]
    congr 1
    show (((n + 127).toNat + 1 : ℕ) : ℤ) - 127 = n + 1
    omega

/-- … and the float of the pattern subtracted from 254 in the exponent is one over it. -/
theorem asFloat_invBits (y : EReal) (hu : y < pow2 126) :
    asFloat (2130706432#32 - scaleBits y) = Ideal.div 1 (scaleOf y) := by
  unfold scaleOf scaleBits
  by_cases h : y < pow2 (-126)
  · rw [topField_small y h, if_pos rfl, if_pos h, show (2130706432#32 - 1065353216#32 : BitVec 32) = 1065353216#32 by decide]
    rw [show asFloat 1065353216#32 = 1 from Ideal.ofBits_one_f32]
    unfold Ideal.div
    simp
  · obtain ⟨n, a, b, hl, hu'⟩ := exists_between y (not_lt.mp h) hu
    have en : (((n + 127).toNat : ℕ) : ℤ) = n + 127 := by omega
    have et : topField y = field ⟨(n + 127).toNat, by omega⟩ :=
      topField_eq y ⟨(n + 127).toNat, by omega⟩ (by show 0 < (n + 127).toNat; omega) (by show (n + 127).toNat < 255; omega)
        (by simpa [en] using hl) (by simpa [en, show n + 127 - 126 = n + 1 by ring] using hu')
    obtain ⟨f1, f2, f3, f4, f5⟩ := field_succ ⟨(n + 127).toNat, by omega⟩ (by show 0 < (n + 127).toNat; omega)
      (by show (n + 127).toNat < 253; omega)
    rw [et, if_neg f1, if_neg h, powAbove_eq y n a (by omega) hl hu', f2, f3,
      asFloat_field _ (by rw [f5]; show 0 < 253 - (n + 127).toNat; omega) (by rw [f5]; show 253 - (n + 127).toNat < 255; omega), f5]
    unfold Ideal.div
    rw [if_neg (pow2_pos _).ne', one_mul]
    unfold pow2
    rw [← EReal.coe_inv, ← zpow_neg]
    congr 2
    show ((253 - (n + 127).toNat : ℕ) : ℤ) - 127 = -(n + 1)
    omega

end Cert.Proof.Norm

end
-- ==== Proof.NormRow.lean ====
/- One row of the normaliser over the extended reals: the normed value, the largest magnitude of a block of 128 of them, and the
   code of a value under a reciprocal scale. -/
module

public import proofs.«01_k».proof.Proof.Pow2
public import Idealize.ShloMosaic.Lib.Pointwise

@[expose] public section

noncomputable section

namespace Cert.Proof.Norm

open Idealize.ShloMosaic

/-- What a row is multiplied by: one over its root mean square, with a small constant under the root. -/
def rowRsqrt (row : Fin 8192 → EReal) : EReal :=
  Ideal.rsqrt (Ideal.div (∑ k, row k * row k) (Ideal.ofBits .f32 0x46000000#32) + Ideal.ofBits .f32 0x358637BD#32)

/-- Element `j` of the normed row, times its gain. -/
def hRow (row g : Fin 8192 → EReal) (j : Fin 8192) : EReal := row j * rowRsqrt row * g j

/-- Column `l` of block `b`. -/
def col (b : Fin 64) (l : Fin 128) : Fin 8192 := ⟨b.val * 128 + l.val, by omega⟩

/-- The largest magnitude of block `b`, divided by the largest code. -/
def ratio (row g : Fin 8192 → EReal) (b : Fin 64) : EReal :=
  Finset.fold max (Ideal.ofBits .f32 0xFF800000#32) (fun l => FloatOps.absf (F := Ideal) (φ := .f32) (hRow row g (col b l))) Finset.univ
    * Ideal.ofBits .f32 0x3B124925#32

/-- The code of element `j` under the reciprocal scale `inv`. -/
def code (row g : Fin 8192 → EReal) (j : Fin 8192) (inv : EReal) : EReal :=
  min (Ideal.ofBits .f32 0x43E00000#32) (max (Ideal.ofBits .f32 0xC3E00000#32) (hRow row g j * inv))

/-- The block that column `j` lies in. -/
def blk (j : Fin 8192) : Fin 64 := ⟨j.val / 128, by omega⟩

end Cert.Proof.Norm

end
-- ==== Proof.NormBlock.lean ====
/- What the normaliser's body computes on one block of 32 rows and 128 columns, element by element over the extended reals: the
   scale pattern, the scale, the codes and their dequantised values, from the row's factor, the block and its gains. -/
module

public import proofs.«01_k».proof.Proof.NormRow
public import proofs.«01_k».proof.Proof.Gen.NormKernelIdeal.Value
public import Idealize.ShloMosaic.Lib.Pointwise

@[expose] public section

set_option maxRecDepth 16384

noncomputable section

namespace Cert.Proof.Norm

open Idealize.ShloMosaic
open Cert.NormKernelIdeal Cert.NormKernelIdeal.Gen

/-- The scale that the kernel takes for block `b`. -/
def kScale (row g : Fin 8192 → EReal) (b : Fin 64) : EReal := asFloat (scaleBits (ratio row g b))

/-- The reciprocal that the kernel takes for block `b`. -/
def kInv (row g : Fin 8192 → EReal) (b : Fin 64) : EReal := asFloat (2130706432#32 - scaleBits (ratio row g b))

section
variable {F : FTy → Type} [FloatOps F]

/-- The scales of a block's rows. -/
def scaleBlk (r : FVec F S32x1 .f32) (x : Vec F S32x128 .bf16) (g : Vec F S1x128 .bf16) : FVec F S32x1 .f32 := k0_pay19 r x g

/-- The codes of a block. -/
def codesBlk (r : FVec F S32x1 .f32) (x : Vec F S32x128 .bf16) (g : Vec F S1x128 .bf16) : FVec F S32x128 .fp8e4m3 := k0_pay20 r x g

/-- The dequantised values of a block. -/
def houtBlk (r : FVec F S32x1 .f32) (x : Vec F S32x128 .bf16) (g : Vec F S1x128 .bf16) : FVec F S32x128 .bf16 :=
  k0_pay23 (k0_pay21 r x g) (k0_pay22 r x g)

end

theorem field_word : ∀ k : Fin 256, IntOp.shli .vector (BitVec.ofNat 32 k.val) 23#32 = field k := by
  unfold field
  decide +kernel

theorem choose_word (a b c : BitVec 32) : Scalar.select (IntOp.cmpi .eq a 0#32) b c = if a = 0#32 then b else c := by
  by_cases h : a = 0#32
  · subst h; rfl
  · rw [if_neg h]
    have h' : (a == 0#32) = false := by simpa using h
    simp [Scalar.select, IntOp.cmpi, h']

theorem h_blk (r : FVec Ideal S32x1 .f32) (x : Vec Ideal S32x128 .bf16) (g : Vec Ideal S1x128 .bf16) (p : Fin 32) (l : Fin 128) :
    k0_pay17 r x g (ix2 p l) = x (ix2 p l) * r (ix2 p 0) * g (ix2 0 l) := by
  pointwise [k0_pay17]

section
variable (r : FVec Ideal S32x1 .f32) (x : Vec Ideal S32x128 .bf16) (g : Vec Ideal S1x128 .bf16) (p : Fin 32) (b : Fin 64)
  (row gr : Fin 8192 → EReal) (hr : r (ix2 p 0) = rowRsqrt row) (hx : ∀ l, x (ix2 p l) = row (col b l))
  (hg : ∀ l, g (ix2 0 l) = gr (col b l))
include hr hx hg

theorem bits_blk : k0_pay18 r x g (ix2 p 0) = scaleBits (ratio row gr b) := by
  pointwise [k0_pay18]
  simp only [h_blk, hr, hx, hg, field_word, choose_word]
  rfl

theorem scale_blk : scaleBlk r x g (ix2 p 0) = kScale row gr b := by
  have h := bits_blk r x g p b row gr hr hx hg
  unfold scaleBlk
  pointwise [k0_pay19]
  rw [h]
  rfl

theorem codes_blk (l : Fin 128) : codesBlk r x g (ix2 p l) = code row gr (col b l) (kInv row gr b) := by
  have h := bits_blk r x g p b row gr hr hx hg
  unfold codesBlk
  pointwise [k0_pay20]
  rw [h, h_blk, hr, hx, hg]
  rfl

theorem hout_blk (l : Fin 128) : houtBlk r x g (ix2 p l) = code row gr (col b l) (kInv row gr b) * kScale row gr b := by
  have h := codes_blk r x g p b row gr hr hx hg l
  have h' := scale_blk r x g p b row gr hr hx hg
  unfold codesBlk at h
  unfold scaleBlk at h'
  unfold houtBlk
  pointwise [k0_pay23, k0_pay21, k0_pay22]
  rw [h, h']

end

end Cert.Proof.Norm

end
-- ==== Proof.NormTrip.lean ====
/- What one trip of the normaliser's loop stores: 32 rows of the codes, of the dequantised values and of the scales.  The row's factor
   is a sum over 64 blocks taken one after another (`sum_step`), the scales are a choice by lane taken one after another (`lane_step`),
   and the stores of the codes and of the dequantised values are the blocks of one function of the index (`codes_piece`, `hout_piece`). -/
module

public import proofs.«01_k».proof.Proof.NormBlock
public import Idealize.ShloMosaic.Lib.Pipeline.ReadBack
import all proofs.«01_k».proof.Proof.Gen.NormKernelIdeal.Loops

@[expose] public section

set_option maxRecDepth 16384

noncomputable section

namespace Cert.Proof.Norm

open Idealize.ShloMosaic
open Cert.NormKernelIdeal Cert.NormKernelIdeal.Gen

/-- Row `q` of the body's block of the activation. -/
def rowOf (x0 : Vec Ideal S128x8192 .bf16) (q : Fin 128) : Fin 8192 → EReal := fun j => x0 (ix2 q j)

/-- The gains of the body. -/
def gainOf (x1 : Vec Ideal S1x8192 .bf16) : Fin 8192 → EReal := fun j => x1 (ix2 0 j)

/-- Row `p` of trip `k`, as a row of the body's block. -/
def tripRow (k : Fin k0_t1_loop.trips) (p : Fin 32) : Fin 128 :=
  ⟨32 * k.val + p.val, by have h : k.val < 4 := Nat.lt_of_lt_of_le k.isLt k0_t1_abs.2.1; omega⟩

/-- The block's codes. -/
def codesOf (x0 : Vec Ideal S128x8192 .bf16) (x1 : Vec Ideal S1x8192 .bf16) : S128x8192.Idx → EReal :=
  fun y => code (rowOf x0 (y 0)) (gainOf x1) (y 1) (kInv (rowOf x0 (y 0)) (gainOf x1) (blk (y 1)))

/-- The block's dequantised values. -/
def houtOf (x0 : Vec Ideal S128x8192 .bf16) (x1 : Vec Ideal S1x8192 .bf16) : S128x8192.Idx → EReal :=
  fun y => codesOf x0 x1 y * kScale (rowOf x0 (y 0)) (gainOf x1) (blk (y 1))

/-- The block's scales. -/
def scalesOf (x0 : Vec Ideal S128x8192 .bf16) (x1 : Vec Ideal S1x8192 .bf16) : S128x64.Idx → EReal :=
  fun y => kScale (rowOf x0 (y 0)) (gainOf x1) (y 1)

section
variable (arg1 : Memref sig .tc .vmem S128x8192 .bf16) (harg1 : arg1.IsWhole) (arg2 : Memref sig .tc .vmem S1x8192 .bf16)
  (harg2 : arg2.IsWhole) (x0 : Vec Ideal S128x8192 .bf16) (x1 : Vec Ideal S1x8192 .bf16) (k : Fin k0_t1_loop.trips)

/-- A loaded block of the activation, element by element. -/
theorem load_x (off : Fin 2 → ℕ) (n : ℕ) (hoff : off = ![32 * k.val, n]) (inb : ∀ d, off d + S32x128.size d ≤ S128x8192.size d)
    (b : Fin 64) (hb : n = b.val * 128) (p : Fin 32) (l : Fin 128) :
    View.readAt (Elt Ideal) arg1.view (Rect.unit (s := S128x8192) off S32x128.size inb).toLoadRect (harg1.unread x0) (ix2 p l)
      = rowOf x0 (tripRow k p) (col b l) := by
  subst hoff hb
  rw [View.readAt_eq_ld, harg1.read_unread]
  unfold View.ld rowOf
  congr 1
  funext d
  refine Fin.ext ?_
  fin_cases d
  · show 32 * k.val + 1 * p.val = 32 * k.val + p.val
    omega
  · show b.val * 128 + 1 * l.val = b.val * 128 + l.val
    omega

/-- A loaded block of the gains. -/
theorem load_g (n : ℕ) (inb : ∀ d, (![0, n] : Fin 2 → ℕ) d + S1x128.size d ≤ S1x8192.size d) (b : Fin 64) (hb : n = b.val * 128)
    (l : Fin 128) :
    View.readAt (Elt Ideal) arg2.view (Rect.unit (s := S1x8192) ![0, n] S1x128.size inb).toLoadRect (harg2.unread x1) (ix2 0 l)
      = gainOf x1 (col b l) := by
  subst hb
  rw [View.readAt_eq_ld, harg2.read_unread]
  unfold View.ld gainOf
  congr 1
  funext d
  refine Fin.ext ?_
  fin_cases d
  · rfl
  · show b.val * 128 + 1 * l.val = b.val * 128 + l.val
    omega

/-! ## The row's factor -/

theorem zero_sum (p : Fin 32) (l : Fin 128) :
    (broadcast S32x128 (Scalar.ofBits (F := Ideal) .f32 0x00000000#32) : FVec Ideal S32x128 .f32) (ix2 p l)
      = ∑ b ∈ (Finset.univ : Finset (Fin 64)).filter (fun b => b.val < 0), rowOf x0 (tripRow k p) (col b l) * rowOf x0 (tripRow k p) (col b l) := by
  rw [Finset.filter_false_of_mem (by simp), Finset.sum_empty]
  exact Ideal.ofBits_zero_f32

/-- One more square added to the running sum. -/
theorem sum_step (n : ℕ) (hn : n < 64) (p : Fin 32) (l : Fin 128) (v prev : FVec Ideal S32x128 .f32) (X : Vec Ideal S32x128 .bf16)
    (hX : X (ix2 p l) = rowOf x0 (tripRow k p) (col ⟨n, hn⟩ l))
    (hprev : prev (ix2 p l) = ∑ b ∈ (Finset.univ : Finset (Fin 64)).filter (fun b => b.val < n), rowOf x0 (tripRow k p) (col b l) * rowOf x0 (tripRow k p) (col b l))
    (hv : v = addf prev (mulf (extf .f32 X bitsLt_bf16_f32) (extf .f32 X bitsLt_bf16_f32))) :
    v (ix2 p l) = ∑ b ∈ (Finset.univ : Finset (Fin 64)).filter (fun b => b.val < n + 1), rowOf x0 (tripRow k p) (col b l) * rowOf x0 (tripRow k p) (col b l) := by
  have hs : (Finset.univ : Finset (Fin 64)).filter (fun b => b.val < n + 1)
      = insert ⟨n, hn⟩ ((Finset.univ : Finset (Fin 64)).filter (fun b => b.val < n)) := by
    ext b
    simp only [Finset.mem_filter, Finset.mem_univ, true_and, Finset.mem_insert, Fin.ext_iff]
    omega
  rw [hs, Finset.sum_insert (by simp), ← hprev, ← hX, hv, add_comm]
  rfl

/-- The sum over a row, taken by lane and then by block. -/
theorem sum_blocks (f : Fin 8192 → EReal) : ∑ l : Fin 128, ∑ b : Fin 64, f (col b l) = ∑ j, f j := by
  rw [Finset.sum_comm, ← Fintype.sum_prod_type' (f := fun (b : Fin 64) (l : Fin 128) => f (col b l))]
  refine Fintype.sum_equiv (finProdFinEquiv (m := 64) (n := 128)) _ _ fun y => congrArg f (Fin.ext ?_)
  show y.1.val * 128 + y.2.val = y.2.val + 128 * y.1.val
  omega

/-- The factor of a row from the sum of its squares by lane. -/
theorem factor_apply (v : FVec Ideal S32x128 .f32) (p : Fin 32) :
    rsqrt (addf (mulf (shapeCast S32x1 (multiReduction .add [1] S32 v 0x00000000#32 reduces_S32x128_S32 (.inl rfl) rfl) shapeCasts_S32_S32x1)
        (broadcast S32x1 (Scalar.ofBits (F := Ideal) .f32 0x39000000#32))) (broadcast S32x1 (Scalar.ofBits (F := Ideal) .f32 0x358637BD#32))) (ix2 p 0)
      = Ideal.rsqrt ((∑ l, v (ix2 p l)) * Ideal.ofBits .f32 0x39000000#32 + Ideal.ofBits .f32 0x358637BD#32) := by
  pointwise

/-- A mean over 8192 elements, as a product and as a quotient. -/
theorem mean_eq (s : EReal) : s * Ideal.ofBits .f32 0x39000000#32 = Ideal.div s (Ideal.ofBits .f32 0x46000000#32) := by
  have h1 : Ideal.ofBits .f32 0x39000000#32 = pow2 (-13) := asFloat_field 114 (by decide) (by decide)
  have h2 : Ideal.ofBits .f32 0x46000000#32 = pow2 13 := asFloat_field 140 (by decide) (by decide)
  unfold Ideal.div
  rw [h1, h2, if_neg (pow2_pos 13).ne']
  congr 1

set_option maxHeartbeats 4000000 in
/-- The factor of row `p` of a trip. -/
theorem trip_factor (p : Fin 32) :
    trip_k0_t1.sl.r_6 (F := Ideal) arg1 (harg1.unread x0) k (ix2 p 0) = rowRsqrt (rowOf x0 (tripRow k p)) := by
  refine (factor_apply _ p).trans ?_
  unfold rowRsqrt
  rw [mean_eq, ← sum_blocks]
  congr 3
  refine Finset.sum_congr rfl fun l _ => ?_
  refine Eq.trans ?_ (congrArg (fun s : Finset (Fin 64) => ∑ b ∈ s, rowOf x0 (tripRow k p) (col b l) * rowOf x0 (tripRow k p) (col b l))
    (Finset.filter_true_of_mem (p := fun b : Fin 64 => b.val < 64) fun b _ => b.isLt))
  repeat' (first
    | exact zero_sum x0 k p l
    | refine sum_step x0 k _ (by decide) p l _ _ _ (load_x arg1 harg1 x0 k _ _ (ClosedOff.eq.trans rfl) _ _ rfl p l) ?_ rfl)

/-! ## The stores -/

variable (c : Dev nD) (i : grid0.Coords) (arg3 : Memref sig .tc .vmem S128x8192 .fp8e4m3) (harg3 : arg3.IsWhole)
  (arg4 : Memref sig .tc .vmem S128x64 .f32) (harg4 : arg4.IsWhole) (arg5 : Memref sig .tc .vmem S128x8192 .bf16) (harg5 : arg5.IsWhole)

/-- Where element `(p, l)` of a stored block lies. -/
theorem emb_block (off : Fin 2 → ℕ) (n : ℕ) (hoff : off = ![32 * k.val, n]) (hb : n % 128 = 0)
    (inb : ∀ d, off d + S32x128.size d ≤ S128x8192.size d) (p : Fin 32) (l : Fin 128) :
    ∃ b : Fin 64, n = b.val * 128 ∧ (Rect.unit (s := S128x8192) off S32x128.size inb).emb (ix2 p l) = ix2 (tripRow k p) (col b l) := by
  subst hoff
  have h1 : n + 128 ≤ 8192 := inb 1
  refine ⟨⟨n / 128, by omega⟩, (by show n = n / 128 * 128; omega), ?_⟩
  funext d
  refine Fin.ext ?_
  fin_cases d
  · show 32 * k.val + 1 * p.val = 32 * k.val + p.val
    omega
  · show n + 1 * l.val = n / 128 * 128 + l.val
    omega

theorem blk_col (b : Fin 64) (l : Fin 128) : blk (col b l) = b :=
  Fin.ext (by show (b.val * 128 + l.val) / 128 = b.val; omega)

/-- A stored block of the codes. -/
theorem codes_piece (off : Fin 2 → ℕ) (n : ℕ) (hoff : off = ![32 * k.val, n]) (hb : n % 128 = 0)
    (inb : ∀ d, off d + S32x128.size d ≤ S128x8192.size d) (inb2 : ∀ d, (![0, n] : Fin 2 → ℕ) d + S1x128.size d ≤ S1x8192.size d)
    (v : FVec Ideal S32x128 .fp8e4m3)
    (hv : v = codesBlk (trip_k0_t1.sl.r_6 (F := Ideal) arg1 (harg1.unread x0) k)
      (View.readAt (Elt Ideal) arg1.view (Rect.unit (s := S128x8192) off S32x128.size inb).toLoadRect (harg1.unread x0))
      (View.readAt (Elt Ideal) arg2.view (Rect.unit (s := S1x8192) ![0, n] S1x128.size inb2).toLoadRect (harg2.unread x1)))
    (y : S32x128.Idx) : v y = codesOf x0 x1 ((Rect.unit (s := S128x8192) off S32x128.size inb).emb y) := by
  idx_vars y
  obtain ⟨b, hn, he⟩ := emb_block k off n hoff hb inb y0 y1
  rw [he, hv, codes_blk _ _ _ y0 b (rowOf x0 (tripRow k y0)) (gainOf x1) (trip_factor arg1 harg1 x0 k y0)
    (load_x arg1 harg1 x0 k off n hoff inb b hn y0) (load_g arg2 harg2 x1 n inb2 b hn)]
  show _ = code (rowOf x0 (tripRow k y0)) (gainOf x1) (col b y1) (kInv (rowOf x0 (tripRow k y0)) (gainOf x1) (blk (col b y1)))
  rw [blk_col]

/-- A stored block of the dequantised values. -/
theorem hout_piece (off : Fin 2 → ℕ) (n : ℕ) (hoff : off = ![32 * k.val, n]) (hb : n % 128 = 0)
    (inb : ∀ d, off d + S32x128.size d ≤ S128x8192.size d) (inb2 : ∀ d, (![0, n] : Fin 2 → ℕ) d + S1x128.size d ≤ S1x8192.size d)
    (v : FVec Ideal S32x128 .bf16)
    (hv : v = houtBlk (trip_k0_t1.sl.r_6 (F := Ideal) arg1 (harg1.unread x0) k)
      (View.readAt (Elt Ideal) arg1.view (Rect.unit (s := S128x8192) off S32x128.size inb).toLoadRect (harg1.unread x0))
      (View.readAt (Elt Ideal) arg2.view (Rect.unit (s := S1x8192) ![0, n] S1x128.size inb2).toLoadRect (harg2.unread x1)))
    (y : S32x128.Idx) : v y = houtOf x0 x1 ((Rect.unit (s := S128x8192) off S32x128.size inb).emb y) := by
  idx_vars y
  obtain ⟨b, hn, he⟩ := emb_block k off n hoff hb inb y0 y1
  rw [he, hv, hout_blk _ _ _ y0 b (rowOf x0 (tripRow k y0)) (gainOf x1) (trip_factor arg1 harg1 x0 k y0)
    (load_x arg1 harg1 x0 k off n hoff inb b hn y0) (load_g arg2 harg2 x1 n inb2 b hn)]
  show _ = code (rowOf x0 (tripRow k y0)) (gainOf x1) (col b y1) (kInv (rowOf x0 (tripRow k y0)) (gainOf x1) (blk (col b y1)))
    * kScale (rowOf x0 (tripRow k y0)) (gainOf x1) (blk (col b y1))
  rw [blk_col]

set_option maxHeartbeats 4000000 in
/-- A trip's stores of the codes. -/
theorem trip_codes : View.PiecesOf (Val := Elt Ideal) (e := .fp8e4m3) (codesOf x0 x1)
    (tripL_k0_t1 (F := Ideal) Variants.none c none i arg1 harg1 arg2 harg2 arg3 harg3 arg4 harg4 arg5 harg5 (harg1.unread x0) (harg2.unread x1) k).1 := by
  unfold tripL_k0_t1 trip_k0_t1
  dsimp only
  repeat' (first
    | exact trivial
    | refine And.intro (fun x => codes_piece arg1 harg1 arg2 harg2 x0 x1 k _ _ (ClosedOff.eq.trans rfl) rfl _ (by decide) _ rfl x) ?_)

set_option maxHeartbeats 4000000 in
/-- A trip's stores of the dequantised values. -/
theorem trip_hout : View.PiecesOf (Val := Elt Ideal) (e := .bf16) (houtOf x0 x1)
    (tripL_k0_t1 (F := Ideal) Variants.none c none i arg1 harg1 arg2 harg2 arg3 harg3 arg4 harg4 arg5 harg5 (harg1.unread x0) (harg2.unread x1) k).2.2 := by
  unfold tripL_k0_t1 trip_k0_t1
  dsimp only
  repeat' (first
    | exact trivial
    | refine And.intro (fun x => hout_piece arg1 harg1 arg2 harg2 x0 x1 k _ _ (ClosedOff.eq.trans rfl) rfl _ (by decide) _ rfl x) ?_)

/-! ## The scales -/

/-- One more lane set to its block's scale. -/
theorem lane_step (n : ℕ) (hn : n < 64) (p : Fin 32) (v prev : FVec Ideal S32x64 .f32) (X : Vec Ideal S32x128 .bf16) (Y : Vec Ideal S1x128 .bf16)
    (hX : ∀ l, X (ix2 p l) = rowOf x0 (tripRow k p) (col ⟨n, hn⟩ l)) (hY : ∀ l, Y (ix2 0 l) = gainOf x1 (col ⟨n, hn⟩ l))
    (hprev : ∀ b : Fin 64, b.val < n → prev (ix2 p b) = kScale (rowOf x0 (tripRow k p)) (gainOf x1) b)
    (hv : v = select (cmpi .eq (iota .tc S32x64 32 [1] iota_S32x64_d1_w32) (broadcast S32x64 (BitVec.ofNat 32 n)))
      (broadcastTo S32x64 (shapeCast S32x1 (scaleBlk (trip_k0_t1.sl.r_6 (F := Ideal) arg1 (harg1.unread x0) k) X Y) shapeCasts_S32x1_S32x1)
        broadcasts_S32x1_S32x64) prev) :
    ∀ b : Fin 64, b.val < n + 1 → v (ix2 p b) = kScale (rowOf x0 (tripRow k p)) (gainOf x1) b := by
  intro b hb
  have hs := scale_blk _ X Y p ⟨n, hn⟩ (rowOf x0 (tripRow k p)) (gainOf x1) (trip_factor arg1 harg1 x0 k p) hX hY
  have hl : ∀ m : Fin 64, ∀ b : Fin 64, (BitVec.ofNat 32 b.val == BitVec.ofNat 32 m.val) = decide (b = m) := by decide +kernel
  generalize scaleBlk (trip_k0_t1.sl.r_6 (F := Ideal) arg1 (harg1.unread x0) k) X Y = s at hs hv
  rw [hv]
  have h : select (cmpi .eq (iota .tc S32x64 32 [1] iota_S32x64_d1_w32) (broadcast S32x64 (BitVec.ofNat 32 n)))
      (broadcastTo S32x64 (shapeCast S32x1 s shapeCasts_S32x1_S32x1) broadcasts_S32x1_S32x64) prev (ix2 p b)
      = Scalar.select (IntOp.cmpi .eq (BitVec.ofNat 32 b.val) (BitVec.ofNat 32 n)) (s (ix2 p 0)) (prev (ix2 p b)) := by
    pointwise
  rw [h]
  unfold Scalar.select IntOp.cmpi
  simp only [hl ⟨n, hn⟩ b]
  by_cases e : b = ⟨n, hn⟩
  · subst e
    simpa using hs
  · have e' : b.val ≠ n := fun q => e (Fin.ext q)
    simp [e, hprev b (by omega)]

set_option maxHeartbeats 4000000 in
/-- A trip's scales. -/
theorem trip_lanes (p : Fin 32) : ∀ b : Fin 64, b.val < 64 →
    k0_pay1 trip_k0_t1.sl.v331 (trip_k0_t1.sl.r_221 (F := Ideal) arg1 arg2 (harg1.unread x0) (harg2.unread x1) k)
      (trip_k0_t1.sl.r_224 arg1 arg2 (harg1.unread x0) (harg2.unread x1) k) k0_pay491 (ix2 p b)
      = kScale (rowOf x0 (tripRow k p)) (gainOf x1) b := by
  repeat' (first
    | exact fun b hb => absurd hb (Nat.not_lt_zero _)
    | refine lane_step arg1 harg1 x0 x1 k _ (by decide) p _ _ _ _ (load_x arg1 harg1 x0 k _ _ (ClosedOff.eq.trans rfl) _ _ rfl p)
        (load_g arg2 harg2 x1 _ _ _ rfl) ?_ rfl)

/-- The stored rows of the scales. -/
theorem scales_piece (off : Fin 2 → ℕ) (hoff : off = ![32 * k.val, 0]) (inb : ∀ d, off d + S32x64.size d ≤ S128x64.size d)
    (v : FVec Ideal S32x64 .f32)
    (hv : ∀ (p : Fin 32) (b : Fin 64), b.val < 64 → v (ix2 p b) = kScale (rowOf x0 (tripRow k p)) (gainOf x1) b)
    (y : S32x64.Idx) : v y = scalesOf x0 x1 ((Rect.unit (s := S128x64) off S32x64.size inb).emb y) := by
  subst hoff
  idx_vars y
  have he : (Rect.unit (s := S128x64) ![32 * k.val, 0] S32x64.size inb).emb (ix2 y0 y1) = ix2 (tripRow k y0) y1 := by
    funext d
    refine Fin.ext ?_
    fin_cases d
    · show 32 * k.val + 1 * y0.val = 32 * k.val + y0.val
      omega
    · show 0 + 1 * y1.val = y1.val
      omega
  rw [he, hv y0 y1 y1.isLt]
  rfl

/-- A trip's store of the scales. -/
theorem trip_scales : View.PiecesOf (Val := Elt Ideal) (e := .f32) (scalesOf x0 x1)
    (tripL_k0_t1 (F := Ideal) Variants.none c none i arg1 harg1 arg2 harg2 arg3 harg3 arg4 harg4 arg5 harg5 (harg1.unread x0) (harg2.unread x1) k).2.1 := by
  unfold tripL_k0_t1 trip_k0_t1
  dsimp only
  exact ⟨scales_piece x0 x1 k (k0_off65 k) (ClosedOff.eq.trans rfl) (k0_off65_inb k) _ (trip_lanes arg1 harg1 arg2 harg2 x0 x1 k), trivial⟩

/-! ## The four trips -/

theorem piecesOf_append {s : Shape} {e : EltTy} (G : s.Idx → Elt Ideal e) : ∀ L L' : List (View.Piece (Elt Ideal) s e),
    View.PiecesOf G L → View.PiecesOf G L' → View.PiecesOf G (L ++ L')
  | [], _, _, h' => h'
  | _ :: L, L', h, h' => ⟨h.1, piecesOf_append G L L' h.2 h'⟩

/-- The stores of the first `n` trips. -/
theorem trips_pieces : ∀ n : ℕ, n ≤ k0_t1_loop.trips →
    View.PiecesOf (Val := Elt Ideal) (e := .fp8e4m3) (codesOf x0 x1)
      (pb_k0_t1 (F := Ideal) Variants.none c none i arg1 harg1 arg2 harg2 arg3 harg3 arg4 harg4 arg5 harg5 (harg1.unread x0) (harg2.unread x1) n).1
    ∧ View.PiecesOf (Val := Elt Ideal) (e := .f32) (scalesOf x0 x1)
      (pb_k0_t1 (F := Ideal) Variants.none c none i arg1 harg1 arg2 harg2 arg3 harg3 arg4 harg4 arg5 harg5 (harg1.unread x0) (harg2.unread x1) n).2.1
    ∧ View.PiecesOf (Val := Elt Ideal) (e := .bf16) (houtOf x0 x1)
      (pb_k0_t1 (F := Ideal) Variants.none c none i arg1 harg1 arg2 harg2 arg3 harg3 arg4 harg4 arg5 harg5 (harg1.unread x0) (harg2.unread x1) n).2.2
  | 0, _ => ⟨trivial, trivial, trivial⟩
  | n + 1, h => by
    obtain ⟨h1, h2, h3⟩ := trips_pieces n (by omega)
    have e := pb_k0_t1_succ (F := Ideal) Variants.none c none i arg1 harg1 arg2 harg2 arg3 harg3 arg4 harg4 arg5 harg5 (harg1.unread x0)
      (harg2.unread x1) ⟨n, h⟩
    dsimp only at e
    rw [e]
    exact ⟨piecesOf_append _ _ _ (trip_codes arg1 harg1 arg2 harg2 x0 x1 _ c i arg3 harg3 arg4 harg4 arg5 harg5) h1,
      piecesOf_append _ _ _ (trip_scales arg1 harg1 arg2 harg2 x0 x1 _ c i arg3 harg3 arg4 harg4 arg5 harg5) h2,
      piecesOf_append _ _ _ (trip_hout arg1 harg1 arg2 harg2 x0 x1 _ c i arg3 harg3 arg4 harg4 arg5 harg5) h3⟩

end

end Cert.Proof.Norm

end
-- ==== Proof.NormRef.lean ====
/- What the normaliser's reference computes, element by element over the extended reals. -/
module

public import proofs.«01_k».proof.Proof.NormRow
public import proofs.«01_k».proof.Proof.Gen.NormReferenceIdeal.Value
public import Idealize.ShloMosaic.Lib.Pointwise

@[expose] public section

set_option maxRecDepth 16384

noncomputable section

namespace Cert.Proof.Norm

open Idealize.ShloMosaic
open Cert.NormReferenceIdeal Cert.NormReferenceIdeal.Gen Cert.NormReferenceIdeal.Value

/-- Row `r` of the activation. -/
def xRow (x : Vec Ideal S3072x8192 .bf16) (r : Fin 3072) : Fin 8192 → EReal := fun k => x (ix2 r k)

/-- The gain. -/
def gRow (g : Vec Ideal S8192 .bf16) : Fin 8192 → EReal := fun k => g (ix1 k)

/-- The reference's normed value. -/
theorem h_apply (x : Vec Ideal S3072x8192 .bf16) (g : Vec Ideal S8192 .bf16) (r : Fin 3072) (b : Fin 64) (l : Fin 128) :
    k0_pay4 x g (ix3 r b l) = hRow (xRow x r) (gRow g) (col b l) := by
  pointwise [k0_pay4]
  rfl

/-- The lanes that carry the powers of two. -/
theorem lanes_apply (r : Fin 3072) (b : Fin 64) (k : Fin 255) :
    exp2 (sitofp (F := Ideal) .f32 (subi (iota .tc S3072x64x255 32 [2] iota_S3072x64x255_d2_w32) (broadcast S3072x64x255 126#32))) (ix3 r b k)
      = pow2 ((k.val : ℤ) - 126) := by
  have h : ∀ k : Fin 255, (IntOp.subi (BitVec.ofNat 32 k.val) 126#32).toInt = (k.val : ℤ) - 126 := by decide +kernel
  pointwise
  show Ideal.exp2 (((IntOp.subi (BitVec.ofNat 32 k.val) 126#32).toInt : ℝ) : EReal) = _
  rw [h k]
  show ((Real.rpow 2 (((k.val : ℤ) - 126 : ℤ) : ℝ) : ℝ) : EReal) = _
  unfold pow2
  congr 1
  exact Real.rpow_intCast 2 _

/-- The least of the lanes above `y`. -/
theorem least_apply (y : FVec Ideal S3072x64 .f32) (v : FVec Ideal S3072x64x255 .f32) (r : Fin 3072) (b : Fin 64)
    (hv : ∀ k : Fin 255, v (ix3 r b k) = pow2 ((k.val : ℤ) - 126)) :
    multiReduction .minimumf [2] S3072x64 (select (cmpf .ogt v (broadcastTo S3072x64x255 (shapeCast S3072x64x1 y shapeCasts_S3072x64_S3072x64x1) broadcasts_S3072x64x1_S3072x64x255)) v (broadcast S3072x64x255 (Scalar.ofBits (F := Ideal) .f32 0x7F800000#32)))
      0x7F800000#32 reduces_S3072x64x255_S3072x64 (.inl rfl) rfl (ix2 r b) = powAbove (y (ix2 r b)) := by
  pointwise
  simp only [hv]
  rw [show Ideal.ofBits .f32 0x7F800000#32 = ⊤ by simp [Ideal.ofBits, Ideal.ieee]]
  rfl

/-- The largest magnitude of a block. -/
theorem max_apply (h : FVec Ideal S3072x64x128 .f32) (r : Fin 3072) (b : Fin 64) :
    multiReduction .maximumf [2] S3072x64 (absf h) 0xFF800000#32 reduces_S3072x64x128_S3072x64 (.inl rfl) rfl (ix2 r b)
      = Finset.fold max (Ideal.ofBits .f32 0xFF800000#32) (fun l => FloatOps.absf (F := Ideal) (φ := .f32) (h (ix3 r b l))) Finset.univ := by
  pointwise

theorem mul_apply (y : FVec Ideal S3072x64 .f32) (r : Fin 3072) (b : Fin 64) :
    mulf y (broadcast S3072x64 (Scalar.ofBits (F := Ideal) .f32 0x3B124925#32)) (ix2 r b) = y (ix2 r b) * Ideal.ofBits .f32 0x3B124925#32 := by
  pointwise

/-- The ratios of all blocks. -/
def ratios (x : Vec Ideal S3072x8192 .bf16) (g : Vec Ideal S8192 .bf16) : FVec Ideal S3072x64 .f32 :=
  mulf (multiReduction .maximumf [2] S3072x64 (absf (k0_pay4 x g)) 0xFF800000#32 reduces_S3072x64x128_S3072x64 (.inl rfl) rfl)
    (broadcast S3072x64 (Scalar.ofBits (F := Ideal) .f32 0x3B124925#32))

theorem ratios_apply (x : Vec Ideal S3072x8192 .bf16) (g : Vec Ideal S8192 .bf16) (r : Fin 3072) (b : Fin 64) :
    ratios x g (ix2 r b) = ratio (xRow x r) (gRow g) b := by
  have hh := h_apply x g r b
  unfold ratios ratio
  generalize k0_pay4 x g = h at hh ⊢
  rw [mul_apply, max_apply]
  congr 1
  exact Finset.fold_congr fun l _ => congrArg (FloatOps.absf (F := Ideal) (φ := .f32)) (hh l)

/-- The choice between one and the power of two. -/
theorem choice_apply (y m : FVec Ideal S3072x64 .f32) (r : Fin 3072) (b : Fin 64) :
    select (cmpf .olt y (broadcast S3072x64 (Scalar.ofBits (F := Ideal) .f32 0x00800000#32)))
      (broadcast S3072x64 (Scalar.ofBits (F := Ideal) .f32 0x3F800000#32)) m (ix2 r b)
      = if y (ix2 r b) < Ideal.ofBits .f32 0x00800000#32 then Ideal.ofBits .f32 0x3F800000#32 else m (ix2 r b) := by
  pointwise

/-- The reference's scale of a block. -/
theorem scale_apply (x : Vec Ideal S3072x8192 .bf16) (g : Vec Ideal S8192 .bf16) (r : Fin 3072) (b : Fin 64) :
    k0_pay5 x g (ix2 r b) = scaleOf (ratio (xRow x r) (gRow g) b) := by
  have h1 : Ideal.ofBits .f32 0x00800000#32 = pow2 (-126) := asFloat_field 1 (by decide) (by decide)
  refine (choice_apply (ratios x g) _ r b).trans ((congrArg (fun t : EReal => if ratios x g (ix2 r b) < Ideal.ofBits .f32 0x00800000#32
    then Ideal.ofBits .f32 0x3F800000#32 else t) (least_apply (ratios x g) _ r b (lanes_apply r b))).trans ?_)
  rw [ratios_apply, h1, Ideal.ofBits_one_f32]
  rfl

/-- The lane of column `j` in its block. -/
def lane (j : Fin 8192) : Fin 128 := ⟨j.val % 128, by omega⟩

theorem codes_cast (c : EReal) (v : FVec Ideal S3072x64x128 .f32) (r : Fin 3072) (j : Fin 8192) :
    k0_pay2 (F := Ideal) c v (ix2 r j) = min c (v (ix3 r (blk j) (lane j))) := by
  pointwise [k0_pay2, k0_pay1]
  rfl

theorem hout_cast (s : FVec Ideal S3072x64 .f32) (c : EReal) (v : FVec Ideal S3072x64x128 .f32) (r : Fin 3072) (j : Fin 8192) :
    k0_pay3 (F := Ideal) s c v (ix2 r j) = min c (v (ix3 r (blk j) (lane j))) * s (ix2 r (blk j)) := by
  pointwise [k0_pay3, k0_pay1]
  rfl

/-- The value clipped from below. -/
theorem clip_apply (h : FVec Ideal S3072x64x128 .f32) (s : FVec Ideal S3072x64 .f32) (r : Fin 3072) (b : Fin 64) (l : Fin 128) :
    maximumf (broadcast S3072x64x128 (Scalar.ofBits (F := Ideal) .f32 0xC3E00000#32)) (mulf h (broadcastTo S3072x64x128 (shapeCast S3072x64x1 (divf (broadcast S3072x64 (Scalar.ofBits (F := Ideal) .f32 0x3F800000#32)) s) shapeCasts_S3072x64_S3072x64x1) broadcasts_S3072x64x1_S3072x64x128)) (ix3 r b l)
      = max (Ideal.ofBits .f32 0xC3E00000#32) (h (ix3 r b l) * Ideal.div (Ideal.ofBits .f32 0x3F800000#32) (s (ix2 r b))) := by
  pointwise

/-- The reference's value before the upper clip. -/
theorem low_apply (x : Vec Ideal S3072x8192 .bf16) (g : Vec Ideal S8192 .bf16) (r : Fin 3072) (j : Fin 8192) :
    k0_pay6 x g (ix3 r (blk j) (lane j))
      = max (Ideal.ofBits .f32 0xC3E00000#32)
          (hRow (xRow x r) (gRow g) j * Ideal.div 1 (scaleOf (ratio (xRow x r) (gRow g) (blk j)))) := by
  have hc : col (blk j) (lane j) = j := Fin.ext (by show j.val / 128 * 128 + j.val % 128 = j.val; omega)
  refine (clip_apply (k0_pay4 x g) (k0_pay5 x g) r (blk j) (lane j)).trans ?_
  rw [h_apply, scale_apply, hc, Ideal.ofBits_one_f32]

theorem loads_eq (x : Vec Ideal S3072x8192 .bf16) (g : Vec Ideal S8192 .bf16) :
    k0_pay7 x g = k0_pay5 x g ∧ k0_pay8 x g = k0_pay6 x g := by
  have h0 : View.ld x r0_0 = x := View.ld_unit_zero (by funext d; fin_cases d <;> rfl) _ x
  have h1 : View.ld g r0_1 = g := View.ld_unit_zero (by funext d; fin_cases d; rfl) _ g
  unfold k0_pay7 k0_pay8
  rw [h0, h1]
  exact ⟨rfl, rfl⟩

/-- The reference's code. -/
theorem G2_apply (x : Vec Ideal S3072x8192 .bf16) (g : Vec Ideal S8192 .bf16) (r : Fin 3072) (j : Fin 8192) :
    G2 x g (ix2 r j) = code (xRow x r) (gRow g) j (Ideal.div 1 (scaleOf (ratio (xRow x r) (gRow g) (blk j)))) := by
  refine (codes_cast _ (k0_pay8 x g) r j).trans ?_
  rw [(loads_eq x g).2, low_apply]
  rfl

/-- The reference's scale. -/
theorem G3_apply (x : Vec Ideal S3072x8192 .bf16) (g : Vec Ideal S8192 .bf16) (r : Fin 3072) (b : Fin 64) :
    G3 x g (ix2 r b) = scaleOf (ratio (xRow x r) (gRow g) b) := by
  show k0_pay7 x g (ix2 r b) = _
  rw [(loads_eq x g).1, scale_apply]

/-- The reference's dequantised value. -/
theorem G4_apply (x : Vec Ideal S3072x8192 .bf16) (g : Vec Ideal S8192 .bf16) (r : Fin 3072) (j : Fin 8192) :
    G4 x g (ix2 r j) = code (xRow x r) (gRow g) j (Ideal.div 1 (scaleOf (ratio (xRow x r) (gRow g) (blk j))))
      * scaleOf (ratio (xRow x r) (gRow g) (blk j)) := by
  refine (hout_cast (k0_pay7 x g) _ (k0_pay8 x g) r j).trans ?_
  rw [(loads_eq x g).2, (loads_eq x g).1, low_apply, scale_apply]
  rfl

end Cert.Proof.Norm

end
-- ==== Proof.NormBound.lean ====
/- A gain of finite magnitude bounds what the scales are taken of: a normed element has a magnitude of at most the root of the row's
   length, so the largest one over the largest code lies below `2 ^ 126`. -/
module

public import proofs.«01_k».proof.Proof.NormRow

@[expose] public section

noncomputable section

namespace Cert.Proof.Norm

open Idealize.ShloMosaic

theorem ofBits_length : Ideal.ofBits .f32 0x46000000#32 = ((8192 : ℝ) : EReal) := by
  simp [Ideal.ofBits, Ideal.ieee, -EReal.coe_mul]; norm_num

theorem ofBits_eps : Ideal.ofBits .f32 0x358637BD#32 = ((8796093 / 2 ^ 43 : ℝ) : EReal) := by
  simp [Ideal.ofBits, Ideal.ieee, -EReal.coe_mul]; norm_num

theorem ofBits_step : Ideal.ofBits .f32 0x3B124925#32 = ((9586981 / 2 ^ 32 : ℝ) : EReal) := by
  simp [Ideal.ofBits, Ideal.ieee, -EReal.coe_mul]; norm_num

theorem ofBits_gainMax : Ideal.ofBits .bf16 0x7F7F#16 = ((255 * 2 ^ 120 : ℝ) : EReal) := by
  simp [Ideal.ofBits, Ideal.ieee, -EReal.coe_mul]

theorem ofBits_least : Ideal.ofBits .f32 0xFF800000#32 = ⊥ := by
  simp [Ideal.ofBits, Ideal.ieee]

theorem sq_nonneg' (x : EReal) : 0 ≤ x * x := by
  rcases le_total 0 x with h | h
  · exact EReal.mul_nonneg h h
  · have h' : 0 ≤ -x := by simpa using EReal.neg_le_neg_iff.mpr h
    simpa using EReal.mul_nonneg h' h'

theorem coe_sum' {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A row with an infinite element has factor zero. -/
theorem rowRsqrt_top (row : Fin 8192 → EReal) (k : Fin 8192) (hk : row k = ⊤ ∨ row k = ⊥) : rowRsqrt row = 0 := by
  have hs : (∑ k, row k * row k) = ⊤ := by
    refine top_unique ?_
    have h1 : row k * row k = ⊤ := by rcases hk with h | h <;> rw [h] <;> rfl
    rw [← h1]
    exact Finset.single_le_sum (f := fun k => row k * row k) (fun i _ => sq_nonneg' (row i)) (Finset.mem_univ k)
  unfold rowRsqrt
  rw [hs, ofBits_length, ofBits_eps, Ideal.div_coe (by norm_num : (8192 : ℝ) ≠ 0),
    EReal.top_mul_coe_of_pos (by norm_num : (0 : ℝ) < 1 / 8192), EReal.top_add_coe]
  rfl

/-- A normed element, before its gain, is a real number of magnitude at most 91. -/
theorem normed_bound (row : Fin 8192 → EReal) (j : Fin 8192) : ∃ t : ℝ, row j * rowRsqrt row = (t : EReal) ∧ |t| ≤ 91 := by
  by_cases hfin : ∃ k, row k = ⊤ ∨ row k = ⊥
  · obtain ⟨k, hk⟩ := hfin
    exact ⟨0, by rw [rowRsqrt_top row k hk, mul_zero]; rfl, by norm_num⟩
  · have hreal : ∀ k, row k = ((row k).toReal : EReal) := fun k =>
      (EReal.coe_toReal (fun h => hfin ⟨k, .inl h⟩) (fun h => hfin ⟨k, .inr h⟩)).symm
    obtain ⟨x, hx⟩ : ∃ x : Fin 8192 → ℝ, ∀ k, row k = (x k : EReal) := ⟨_, hreal⟩
    have hs : (∑ k, row k * row k) = ((∑ k, x k * x k : ℝ) : EReal) := by
      rw [← coe_sum']
      exact Finset.sum_congr rfl fun k _ => by rw [hx k, EReal.coe_mul]
    have hS : 0 ≤ ∑ k, x k * x k := Finset.sum_nonneg fun k _ => mul_self_nonneg (x k)
    have hj : x j * x j ≤ ∑ k, x k * x k :=
      Finset.single_le_sum (f := fun k => x k * x k) (fun i _ => mul_self_nonneg (x i)) (Finset.mem_univ j)
    obtain ⟨S, hSe⟩ : ∃ S : ℝ, S = ∑ k, x k * x k := ⟨_, rfl⟩
    rw [← hSe] at hs hS hj
    obtain ⟨M, hM⟩ : ∃ M : ℝ, M = S * (1 / 8192) + 8796093 / 2 ^ 43 := ⟨_, rfl⟩
    have heps : (0 : ℝ) < 8796093 / 2 ^ 43 := by norm_num
    have hMpos : 0 < M := by rw [hM]; linarith
    have hr : rowRsqrt row = (((Real.sqrt M)⁻¹ : ℝ) : EReal) := by
      unfold rowRsqrt
      rw [hs, ofBits_length, ofBits_eps, Ideal.div_coe (by norm_num : (8192 : ℝ) ≠ 0), ← EReal.coe_mul, ← EReal.coe_add, ← hM]
      show (if M < 0 then (⊥ : EReal) else if M = 0 then ⊤ else (((Real.sqrt M)⁻¹ : ℝ) : EReal)) = _
      rw [if_neg (not_lt.mpr hMpos.le), if_neg hMpos.ne']
    refine ⟨x j * (Real.sqrt M)⁻¹, by rw [hr, hx j, EReal.coe_mul], ?_⟩
    refine abs_le_of_sq_le_sq ?_ (by norm_num)
    have hM2 : x j * x j ≤ 8192 * M := by
      rw [hM]
      linarith
    rw [mul_pow, inv_pow, Real.sq_sqrt hMpos.le, ← div_eq_mul_inv, div_le_iff₀ hMpos]
    nlinarith

/-- With every gain of finite magnitude the scales are taken of numbers below `2 ^ 126`. -/
theorem ratio_lt (row g : Fin 8192 → EReal) (hg : ∀ j, max (g j) (-(g j)) ≤ Ideal.ofBits .bf16 0x7F7F#16) (b : Fin 64) :
    ratio row g b < pow2 126 := by
  have hh : ∀ j, max (hRow row g j) (-(hRow row g j)) ≤ ((91 * (255 * 2 ^ 120) : ℝ) : EReal) := by
    intro j
    obtain ⟨t, ht, hb⟩ := normed_bound row j
    have h1 := hg j
    rw [ofBits_gainMax, max_le_iff] at h1
    have h2 : ((-(255 * 2 ^ 120) : ℝ) : EReal) ≤ g j := by
      have := EReal.neg_le_neg_iff.mpr h1.2
      rwa [neg_neg, ← EReal.coe_neg] at this
    obtain ⟨u, hu⟩ : ∃ u : ℝ, g j = (u : EReal) := by
      refine ⟨(g j).toReal, (EReal.coe_toReal (fun h => ?_) (fun h => ?_)).symm⟩
      · rw [h] at h1; exact absurd (top_unique h1.1) (EReal.coe_ne_top _)
      · rw [h] at h2; exact absurd (bot_unique h2) (EReal.coe_ne_bot _)
    have hu' : |u| ≤ 255 * 2 ^ 120 := by
      rw [hu, EReal.coe_le_coe_iff] at h2
      have h3 := h1.1
      rw [hu, EReal.coe_le_coe_iff] at h3
      exact abs_le.mpr ⟨h2, h3⟩
    have hm : |t * u| ≤ 91 * (255 * 2 ^ 120) := by
      rw [abs_mul]
      exact mul_le_mul hb hu' (abs_nonneg _) (by norm_num)
    unfold hRow
    rw [ht, hu, ← EReal.coe_mul, ← EReal.coe_neg, max_le_iff, EReal.coe_le_coe_iff, EReal.coe_le_coe_iff]
    exact ⟨(le_abs_self _).trans hm, (neg_le_abs _).trans hm⟩
  have hfold : Finset.fold max (Ideal.ofBits .f32 0xFF800000#32)
      (fun l => FloatOps.absf (F := Ideal) (φ := .f32) (hRow row g (col b l))) Finset.univ ≤ ((91 * (255 * 2 ^ 120) : ℝ) : EReal) := by
    rw [Finset.fold_max_le, ofBits_least]
    exact ⟨bot_le, fun l _ => hh (col b l)⟩
  unfold ratio
  rw [ofBits_step]
  refine lt_of_le_of_lt (mul_le_mul_of_nonneg_right hfold (EReal.coe_nonneg.mpr (by norm_num))) ?_
  rw [← EReal.coe_mul]
  unfold pow2
  rw [EReal.coe_lt_coe_iff]
  norm_num

end Cert.Proof.Norm

end
-- ==== Proof.NormFinal.lean ====
/- The normaliser's result arrays after the kernel's run, over the extended reals: the blocks the grid points write back are the blocks
   of the reference's three results. -/
module

public import proofs.«01_k».proof.Proof.NormTrip
public import proofs.«01_k».proof.Proof.NormRef
public import proofs.«01_k».proof.Proof.NormBound
public import proofs.«01_k».proof.Proof.Gen.NormKernelIdeal.Value
public import Idealize.ShloMosaic.Lib.Pipeline.ValueKit
import all proofs.«01_k».proof.Proof.Gen.NormKernelIdeal.Frame.RunA

@[expose] public section

set_option maxRecDepth 16384

noncomputable section

namespace Cert.Proof.Norm

open Idealize.ShloMosaic Idealize.ShloMosaic.TcCoe Idealize.ShloMosaic.Tactic
open Cert.NormKernelIdeal Cert.NormKernelIdeal.Gen Cert.NormKernelIdeal.Value

section
variable (c : Dev nD) (i : grid0.Coords) (arg1 : Memref sig .tc .vmem S128x8192 .bf16) (harg1 : arg1.IsWhole)
  (arg2 : Memref sig .tc .vmem S1x8192 .bf16) (harg2 : arg2.IsWhole) (arg3 : Memref sig .tc .vmem S128x8192 .fp8e4m3) (harg3 : arg3.IsWhole)
  (arg4 : Memref sig .tc .vmem S128x64 .f32) (harg4 : arg4.IsWhole) (arg5 : Memref sig .tc .vmem S128x8192 .bf16) (harg5 : arg5.IsWhole)
  (x0 : Vec Ideal S128x8192 .bf16) (x1 : Vec Ideal S1x8192 .bf16)

/-- What the body leaves in the block of the codes. -/
theorem out_codes : out0_A_2 (F := Ideal) c i arg1 harg1 arg2 harg2 arg3 harg3 arg4 harg4 arg5 harg5 x0 x1 = codesOf x0 x1 := by
  funext y
  refine (View.read_writes_junk_apply_eq_canon _ y _).trans ?_
  exact View.canon_apply_of_pieces (codesOf x0 x1) _ (View.PiecesOf.mem
    (trips_pieces arg1 harg1 arg2 harg2 x0 x1 c i arg3 harg3 arg4 harg4 arg5 harg5 _ le_rfl).1) y
    (cover0_A_2 c i arg1 harg1 arg2 harg2 arg3 harg3 arg4 harg4 arg5 harg5 x0 x1 y)

/-- What the body leaves in the block of the scales. -/
theorem out_scales : out0_A_3 (F := Ideal) c i arg1 harg1 arg2 harg2 arg3 harg3 arg4 harg4 arg5 harg5 x0 x1 = scalesOf x0 x1 := by
  funext y
  refine (View.read_writes_junk_apply_eq_canon _ y _).trans ?_
  exact View.canon_apply_of_pieces (scalesOf x0 x1) _ (View.PiecesOf.mem
    (trips_pieces arg1 harg1 arg2 harg2 x0 x1 c i arg3 harg3 arg4 harg4 arg5 harg5 _ le_rfl).2.1) y
    (cover0_A_3 c i arg1 harg1 arg2 harg2 arg3 harg3 arg4 harg4 arg5 harg5 x0 x1 y)

/-- What the body leaves in the block of the dequantised values. -/
theorem out_hout : out0_A_4 (F := Ideal) c i arg1 harg1 arg2 harg2 arg3 harg3 arg4 harg4 arg5 harg5 x0 x1 = houtOf x0 x1 := by
  funext y
  refine (View.read_writes_junk_apply_eq_canon _ y _).trans ?_
  exact View.canon_apply_of_pieces (houtOf x0 x1) _ (View.PiecesOf.mem
    (trips_pieces arg1 harg1 arg2 harg2 x0 x1 c i arg3 harg3 arg4 harg4 arg5 harg5 _ le_rfl).2.2) y
    (cover0_A_4 c i arg1 harg1 arg2 harg2 arg3 harg3 arg4 harg4 arg5 harg5 x0 x1 y)

end

variable (m : (ℓ : Loc nD τ sig) → Buf (Elt Ideal) ℓ) (c : Dev nD)

/-- The arguments as launched. -/
abbrev argX : Vec Ideal S3072x8192 .bf16 := m ((c : Thread nD τ).loc main_arg0)
abbrev argG : Vec Ideal S8192 .bf16 := m ((c : Thread nD τ).loc main_arg1)

/-! ## The blocks the body is given -/

theorem lt_N (t : Fin cfg0.N) : t.val < 24 := lt_of_lt_of_eq t.isLt N_0

theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)

/-- Row `p` of point `t`'s block, as a row of the array. -/
def ptRow (t : Fin cfg0.N) (p : Fin 128) : Fin 3072 := ⟨t.val * 128 + p.val, by have := lt_N t; omega⟩

theorem iblk0_row (t : Fin cfg0.N) (p : Fin 128) : rowOf (iblk m c 0 t) p = xRow (argX m c) (ptRow t p) := by
  funext k
  unfold rowOf xRow ptRow
  rw [argX, ← V_main_arg0 m c]
  obtain ⟨e0, e1⟩ := index0 t
  blk_ext [iblk, e0, e1]

theorem V_main_v0 : V m c main_v0 = shapeCast S1x8192 (argG m c) shapeCasts_S8192_S1x8192 := by
  entry_read
  rfl

theorem iblk1_row (t : Fin cfg0.N) : gainOf (iblk m c 1 t) = gRow (argG m c) := by
  funext k
  have e : gainOf (iblk m c 1 t) k = V m c main_v0 (ix2 0 k) := by
    obtain ⟨e0, e1⟩ := index1 t
    unfold gainOf
    blk_ext [iblk, e0, e1]
  rw [e, V_main_v0]
  unfold gRow
  pointwise

/-! ## The result arrays -/

variable (hg : ∀ (r : Fin 3072) (b : Fin 64), ratio (xRow (argX m c) r) (gRow (argG m c)) b < pow2 126)
include hg

open Cert.NormReferenceIdeal.Value in
theorem final2 : (dats m 0 c).arrAt 2 cfg0.N = G2 (F := Ideal) (argX m c) (argG m c) := by
  refine (dats m 0 c).arrAt_eq_of_covers 2 _ (by decide +kernel) fun t hf y => ?_
  blk_simp
  rw [after0_2]
  obtain ⟨e0, e1⟩ := index2 t
  have hN := lt_N t
  unfold outsAt0
  dsimp only
  rw [out_codes]
  idx_vars y
  rw [show ((View.whole main_v1_0).slice (win0_2.rect t)).emb (ix2 y0 y1) = ix2 (ptRow t y0) y1 by
    unfold ptRow; blk_ext [e0, e1], G2_apply, ← asFloat_invBits _ (hg _ _), ← iblk0_row m c t y0, ← iblk1_row m c t]
  rfl

open Cert.NormReferenceIdeal.Value in
theorem final3 : (dats m 0 c).arrAt 3 cfg0.N = G3 (F := Ideal) (argX m c) (argG m c) := by
  refine (dats m 0 c).arrAt_eq_of_covers 3 _ (by decide +kernel) fun t hf y => ?_
  blk_simp
  rw [after0_3]
  obtain ⟨e0, e1⟩ := index3 t
  have hN := lt_N t
  unfold outsAt0
  dsimp only
  rw [out_scales]
  idx_vars y
  rw [show ((View.whole main_v1_1).slice (win0_3.rect t)).emb (ix2 y0 y1) = ix2 (ptRow t y0) y1 by
    unfold ptRow; blk_ext [e0, e1], G3_apply, ← asFloat_scaleBits _ (hg _ _), ← iblk0_row m c t y0, ← iblk1_row m c t]
  rfl

open Cert.NormReferenceIdeal.Value in
theorem final4 : (dats m 0 c).arrAt 4 cfg0.N = G4 (F := Ideal) (argX m c) (argG m c) := by
  refine (dats m 0 c).arrAt_eq_of_covers 4 _ (by decide +kernel) fun t hf y => ?_
  blk_simp
  rw [after0_4]
  obtain ⟨e0, e1⟩ := index4 t
  have hN := lt_N t
  unfold outsAt0
  dsimp only
  rw [out_hout]
  idx_vars y
  rw [show ((View.whole main_v1_2).slice (win0_4.rect t)).emb (ix2 y0 y1) = ix2 (ptRow t y0) y1 by
    unfold ptRow; blk_ext [e0, e1], G4_apply, ← asFloat_invBits _ (hg _ _), ← asFloat_scaleBits _ (hg _ _), ← iblk0_row m c t y0,
    ← iblk1_row m c t]
  rfl

end Cert.Proof.Norm

end
-- ==== Proof.NormRun.lean ====
/- The normaliser's run against its reference's, over the extended reals, where every gain is of finite magnitude. -/
module

public import proofs.«01_k».proof.Defs
public import proofs.«01_k».proof.Proof.NormFinal
public import Idealize.ShloMosaic.Lib.Claim

@[expose] public section

set_option maxRecDepth 16384

noncomputable section

namespace Cert.Proof.Norm

open Idealize.ShloMosaic Idealize.ShloMosaic.TcCoe Idealize.SL.Sem

/-- The precondition's side condition. -/
theorem gain_facts : Cert.Pre_gain_is_finite.Facts := ⟨by decide⟩

instance : Cert.Pre_gain_is_finite.Facts := gain_facts

/-- The precondition, read at one gain. -/
theorem gain_apply (x : Vec Ideal Cert.Pre_gain_is_finite.S3072x8192 .bf16) (g : Vec Ideal Cert.Pre_gain_is_finite.S8192 .bf16)
    (j : Fin 8192) : Cert.Pre_gain_is_finite.fn (F := Ideal) x g (ix1 j)
      = BitVec.ofBool (decide (max (g (ix1 j)) (-(g (ix1 j))) ≤ Ideal.ofBits .bf16 0x7F7F#16)) := by
  pointwise [Cert.Pre_gain_is_finite.fn]
  rfl

open Cert.NormKernelIdeal Cert.NormKernelIdeal.Gen in
/-- Under the precondition the scales are taken of numbers below `2 ^ 126`. -/
theorem ratio_lt_of_pre (m : (ℓ : Loc nD τ sig) → Buf (Elt Ideal) ℓ) (h : Cert.Pre_NormKernelIdeal_gain_is_finite m) (c : Dev nD)
    (r : Fin 3072) (b : Fin 64) : ratio (xRow (argX m c) r) (gRow (argG m c)) b < pow2 126 := by
  refine ratio_lt _ _ (fun j => ?_) b
  have e := congrFun (h c) (ix1 j)
  rw [gain_apply] at e
  by_contra hn
  unfold gRow argG at hn
  rw [decide_eq_false hn] at e
  exact absurd e (by decide)

open Cert.NormKernelIdeal Cert.NormKernelIdeal.Gen Cert.NormReferenceIdeal.Value in
/-- The normaliser's run over the extended reals: its three results are the reference's functions of the arguments. -/
theorem norm_run (m : (ℓ : Loc nD τ sig) → Buf (Elt Ideal) ℓ) (h : Cert.Pre_NormKernelIdeal_gain_is_finite m) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = G2 (F := Ideal) (argX m c) (argG m c)
      ∧ r.2.mem ((c.tc : Thread nD τ).loc main_v1_1) = G3 (F := Ideal) (argX m c) (argG m c)
      ∧ r.2.mem ((c.tc : Thread nD τ).loc main_v1_2) = G4 (F := Ideal) (argX m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r hr c => ⟨(hr c).1.trans (final2 m c (ratio_lt_of_pre m h c)),
    (hr c).2.1.trans (final3 m c (ratio_lt_of_pre m h c)), (hr c).2.2.1.trans (final4 m c (ratio_lt_of_pre m h c)), (hr c).2.2.2⟩)
    (Cert.NormKernelIdeal.Value.run_blocks m ρ)

theorem algebraic : Cert.algebraic_NormKernelIdeal_NormReferenceIdeal_pre_gain_is_finite := by
  pair_intro
  · run_from norm_run m (by assumption) g
  · refine (θ_run _ _ _).mono (fun r hr c => ?_) (Cert.NormReferenceIdeal.Value.run m' g')
    obtain ⟨h0, h1, h2, hargs⟩ := hr c
    rw [(hagree c).1, (hagree c).2] at h0 h1 h2
    exact ⟨h0, h1, h2, hargs⟩

end Cert.Proof.Norm

end
-- ==== Proof.lean ====
/- The certificate: each of the two calls leaves its arguments unchanged and its counters at zero, and over the extended reals its
   three results are those of its reference, for the normaliser where every gain is of finite magnitude. -/
module

public import proofs.«01_k».proof.Proof.Gen.NormKernel.Frame
public import proofs.«01_k».proof.Proof.Gen.NormKernelIdeal.Value
public import proofs.«01_k».proof.Proof.Gen.NormReferenceIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.Final
public import proofs.«01_k».proof.Proof.NormRun
public import Idealize.ShloMosaic.Lib.Claim
public import Idealize.ShloMosaic.Adequacy
public import Idealize.ShloMosaic.Init

@[expose] public section

noncomputable section

namespace Cert.Proof

open Idealize.ShloMosaic Idealize.SL.Sem

open Cert.KernelIdeal Cert.KernelIdeal.Gen Cert.ReferenceIdeal.Value in
/-- The product's run over the extended reals: its three results are the reference's functions of the arguments. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v2_0)
        = G5 (F := Ideal) (Qkv.argH m c) (Qkv.argW m c) (Qkv.argS m c) (Qkv.argQ m c) (Qkv.argK m c)
      ∧ r.2.mem ((c.tc : Thread nD τ).loc main_v2_1)
        = G6 (F := Ideal) (Qkv.argH m c) (Qkv.argW m c) (Qkv.argS m c) (Qkv.argQ m c) (Qkv.argK m c)
      ∧ r.2.mem ((c.tc : Thread nD τ).loc main_v2_2)
        = G7 (F := Ideal) (Qkv.argH m c) (Qkv.argW m c) (Qkv.argS m c) (Qkv.argQ m c) (Qkv.argK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h.1.out_eq c 5).trans (Qkv.final5 m c), (h.1.out_eq c 6).trans (Qkv.final6 m c),
    (h.1.out_eq c 7).trans (Qkv.final7 m c), h.2.1 c⟩) (θ_run_and (Qkv.run_main m ρ) (Qkv.frame m ρ))

set_option maxRecDepth 16384 in
theorem algebraic : Cert.algebraic_KernelIdeal_ReferenceIdeal := by
  pair_intro
  · run_from kernel_run m g
  · run_from Cert.ReferenceIdeal.Value.run m' g'

theorem claim : Cert.Claim :=
  ⟨Cert.Kernel.Gen.facts, Cert.KernelIdeal.Gen.facts, Cert.ReferenceIdeal.Gen.facts, Cert.NormKernel.Gen.facts,
    Cert.NormKernelIdeal.Gen.facts, Cert.NormReferenceIdeal.Gen.facts, Norm.gain_facts, fun m ρ _ => Qkv.kernel_frame m ρ,
    fun m ρ _ => Qkv.frame m ρ, fun m ρ _ => Cert.ReferenceIdeal.Gen.frame m ρ, fun m ρ _ => Cert.NormKernel.Gen.frame m ρ,
    fun m ρ _ => Cert.NormKernelIdeal.Gen.frame m ρ, fun m ρ _ => Cert.NormKernelIdeal.Gen.frame m ρ,
    fun m ρ _ => Cert.NormReferenceIdeal.Gen.frame m ρ, fun m ρ _ => Cert.NormReferenceIdeal.Gen.frame m ρ, trivial, algebraic,
    trivial, Norm.algebraic⟩

end Cert.Proof

end
